-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S200x2x100x128 : Shape := ⟨4, ![200, 2, 100, 128]⟩
abbrev S200x2x100 : Shape := ⟨3, ![200, 2, 100]⟩
abbrev S128 : Shape := ⟨1, ![128]⟩
abbrev S6x200x2x128x64 : Shape := ⟨5, ![6, 200, 2, 128, 64]⟩
abbrev S2x100x200x128 : Shape := ⟨4, ![2, 100, 200, 128]⟩
abbrev S6x200x2x64x128 : Shape := ⟨5, ![6, 200, 2, 64, 128]⟩
abbrev S1x128 : Shape := ⟨2, ![1, 128]⟩
abbrev S6x200x2x64x100 : Shape := ⟨5, ![6, 200, 2, 64, 100]⟩
abbrev S2x100x8x128 : Shape := ⟨4, ![2, 100, 8, 128]⟩
abbrev S8x2x100 : Shape := ⟨3, ![8, 2, 100]⟩
abbrev S6x8x2x64x128 : Shape := ⟨5, ![6, 8, 2, 64, 128]⟩
abbrev S6x8x2x64x100 : Shape := ⟨5, ![6, 8, 2, 64, 100]⟩
abbrev S2x800x128 : Shape := ⟨3, ![2, 800, 128]⟩
abbrev S256x256 : Shape := ⟨2, ![256, 256]⟩
abbrev S768x256 : Shape := ⟨2, ![768, 256]⟩
abbrev S1x100x8x128 : Shape := ⟨4, ![1, 100, 8, 128]⟩
abbrev S100x8x128 : Shape := ⟨3, ![100, 8, 128]⟩
abbrev S800x128 : Shape := ⟨2, ![800, 128]⟩
abbrev S1x800x128 : Shape := ⟨3, ![1, 800, 128]⟩
abbrev S100x128 : Shape := ⟨2, ![100, 128]⟩
abbrev S1x1x1x64x128 : Shape := ⟨5, ![1, 1, 1, 64, 128]⟩
abbrev S64x128 : Shape := ⟨2, ![64, 128]⟩
abbrev S1x100 : Shape := ⟨2, ![1, 100]⟩
abbrev S1x1x100 : Shape := ⟨3, ![1, 1, 100]⟩
abbrev S64x100 : Shape := ⟨2, ![64, 100]⟩
abbrev S1x1x1x64x100 : Shape := ⟨5, ![1, 1, 1, 64, 100]⟩
abbrev S6x200x2x100x64 : Shape := ⟨5, ![6, 200, 2, 100, 64]⟩

abbrev nBuf : Space → Nat
  | .hbm => 13
  | .vmem => 16
  | .smem => 0
  | _ => 0

abbrev bufTy : (tb : Table) → Fin (tcTables nBuf tb) → BufTy
  | .hbm, ⟨0, _⟩ => ⟨S200x2x100x128, .fp8e4m3⟩
  | .hbm, ⟨1, _⟩ => ⟨S200x2x100, .f32⟩
  | .hbm, ⟨2, _⟩ => ⟨S128, .f32⟩
  | .hbm, ⟨3, _⟩ => ⟨S6x200x2x128x64, .bf16⟩
  | .hbm, ⟨4, _⟩ => ⟨S6x200x2x128x64, .bf16⟩
  | .hbm, ⟨5, _⟩ => ⟨S2x100x200x128, .fp8e4m3⟩
  | .hbm, ⟨6, _⟩ => ⟨S6x200x2x64x128, .bf16⟩
  | .hbm, ⟨7, _⟩ => ⟨S6x200x2x64x128, .bf16⟩
  | .hbm, ⟨8, _⟩ => ⟨S1x128, .f32⟩
  | .hbm, ⟨9, _⟩ => ⟨S6x200x2x64x100, .f32⟩
  | .hbm, ⟨10, _⟩ => ⟨S6x200x2x64x100, .f32⟩
  | .hbm, ⟨11, _⟩ => ⟨S6x200x2x100x64, .f32⟩
  | .hbm, ⟨12, _⟩ => ⟨S6x200x2x100x64, .f32⟩
  | .local _ .vmem, ⟨0, _⟩ => ⟨S2x100x8x128, .fp8e4m3⟩
  | .local _ .vmem, ⟨1, _⟩ => ⟨S2x100x8x128, .fp8e4m3⟩
  | .local _ .vmem, ⟨2, _⟩ => ⟨S8x2x100, .f32⟩
  | .local _ .vmem, ⟨3, _⟩ => ⟨S8x2x100, .f32⟩
  | .local _ .vmem, ⟨4, _⟩ => ⟨S1x128, .f32⟩
  | .local _ .vmem, ⟨5, _⟩ => ⟨S6x8x2x64x128, .bf16⟩
  | .local _ .vmem, ⟨6, _⟩ => ⟨S6x8x2x64x128, .bf16⟩
  | .local _ .vmem, ⟨7, _⟩ => ⟨S6x8x2x64x128, .bf16⟩
  | .local _ .vmem, ⟨8, _⟩ => ⟨S6x8x2x64x128, .bf16⟩
  | .local _ .vmem, ⟨9, _⟩ => ⟨S6x8x2x64x100, .f32⟩
  | .local _ .vmem, ⟨10, _⟩ => ⟨S6x8x2x64x100, .f32⟩
  | .local _ .vmem, ⟨11, _⟩ => ⟨S6x8x2x64x100, .f32⟩
  | .local _ .vmem, ⟨12, _⟩ => ⟨S6x8x2x64x100, .f32⟩
  | .local _ .vmem, ⟨13, _⟩ => ⟨S2x800x128, .f32⟩
  | .local _ .vmem, ⟨14, _⟩ => ⟨S256x256, .bf16⟩
  | .local _ .vmem, ⟨15, _⟩ => ⟨S768x256, .bf16⟩
  | _, _ => ⟨S200x2x100x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32_15 : BitVec 32 := 0#32
  let c8_i32 : BitVec 32 := 8#32
  let v19 : BitVec 32 := Scalar.addi c0_i32_15 c8_i32
  let c1_i32 : BitVec 32 := 1#32
  ⟨c0_i32_15, v19, c1_i32⟩
def k0_off1 (k0_t1 : Fin k0_t1_loop.trips) : Fin 2 → Nat :=
  let c0_i32_15 : BitVec 32 := 0#32
  let c1_i32 : BitVec 32 := 1#32
  let arg11 : BitVec 32 := Scf.iv c0_i32_15 c1_i32 k0_t1
  let v22 : Index := Scalar.indexCast arg11
  let c0_20 : Index := 0#32
  ![v22.toNat, 0]
def k0_off2 (k0_t1 : Fin k0_t1_loop.trips) : Fin 5 → Nat :=
  let c0_28 : Index := 0#32
  let c0_i32_15 : BitVec 32 := 0#32
  let c1_i32 : BitVec 32 := 1#32
  let arg11 : BitVec 32 := Scf.iv c0_i32_15 c1_i32 k0_t1
  let v36 : Index := Scalar.indexCast arg11
  let c0_29 : Index := 0#32
  let c0_30 : Index := 0#32
  let c0_31 : Index := 0#32
  ![0, v36.toNat, 0, 0, 0]
def k0_off3 (k0_t1 : Fin k0_t1_loop.trips) : Fin 5 → Nat :=
  let c0_32 : Index := 0#32
  let c0_i32_15 : BitVec 32 := 0#32
  let c1_i32 : BitVec 32 := 1#32
  let arg11 : BitVec 32 := Scf.iv c0_i32_15 c1_i32 k0_t1
  let v40 : Index := Scalar.indexCast arg11
  let c1_33 : Index := 1#32
  let c0_34 : Index := 0#32
  let c0_35 : Index := 0#32
  ![0, v40.toNat, 1, 0, 0]
def k0_off4 (k0_t1 : Fin k0_t1_loop.trips) : Fin 5 → Nat :=
  let c1_40 : Index := 1#32
  let c0_i32_15 : BitVec 32 := 0#32
  let c1_i32 : BitVec 32 := 1#32
  let arg11 : BitVec 32 := Scf.iv c0_i32_15 c1_i32 k0_t1
  let v58 : Index := Scalar.indexCast arg11
  let c0_41 : Index := 0#32
  let c0_42 : Index := 0#32
  let c0_43 : Index := 0#32
  ![1, v58.toNat, 0, 0, 0]
def k0_off5 (k0_t1 : Fin k0_t1_loop.trips) : Fin 5 → Nat :=
  let c1_44 : Index := 1#32
  let c0_i32_15 : BitVec 32 := 0#32
  let c1_i32 : BitVec 32 := 1#32
  let arg11 : BitVec 32 := Scf.iv c0_i32_15 c1_i32 k0_t1
  let v62 : Index := Scalar.indexCast arg11
  let c1_45 : Index := 1#32
  let c0_46 : Index := 0#32
  let c0_47 : Index := 0#32
  ![1, v62.toNat, 1, 0, 0]
def k0_off6 (k0_t1 : Fin k0_t1_loop.trips) : Fin 5 → Nat :=
  let c2 : Index := 2#32
  let c0_i32_15 : BitVec 32 := 0#32
  let c1_i32 : BitVec 32 := 1#32
  let arg11 : BitVec 32 := Scf.iv c0_i32_15 c1_i32 k0_t1
  let v80 : Index := Scalar.indexCast arg11
  let c0_51 : Index := 0#32
  let c0_52 : Index := 0#32
  let c0_53 : Index := 0#32
  ![2, v80.toNat, 0, 0, 0]
def k0_off7 (k0_t1 : Fin k0_t1_loop.trips) : Fin 5 → Nat :=
  let c2_54 : Index := 2#32
  let c0_i32_15 : BitVec 32 := 0#32
  let c1_i32 : BitVec 32 := 1#32
  let arg11 : BitVec 32 := Scf.iv c0_i32_15 c1_i32 k0_t1
  let v84 : Index := Scalar.indexCast arg11
  let c1_55 : Index := 1#32
  let c0_56 : Index := 0#32
  let c0_57 : Index := 0#32
  ![2, v84.toNat, 1, 0, 0]
def k0_off8 (k0_t1 : Fin k0_t1_loop.trips) : Fin 5 → Nat :=
  let c3 : Index := 3#32
  let c0_i32_15 : BitVec 32 := 0#32
  let c1_i32 : BitVec 32 := 1#32
  let arg11 : BitVec 32 := Scf.iv c0_i32_15 c1_i32 k0_t1
  let v102 : Index := Scalar.indexCast arg11
  let c0_62 : Index := 0#32
  let c0_63 : Index := 0#32
  let c0_64 : Index := 0#32
  ![3, v102.toNat, 0, 0, 0]
def k0_off9 (k0_t1 : Fin k0_t1_loop.trips) : Fin 5 → Nat :=
  let c3_65 : Index := 3#32
  let c0_i32_15 : BitVec 32 := 0#32
  let c1_i32 : BitVec 32 := 1#32
  let arg11 : BitVec 32 := Scf.iv c0_i32_15 c1_i32 k0_t1
  let v106 : Index := Scalar.indexCast arg11
  let c1_66 : Index := 1#32
  let c0_67 : Index := 0#32
  let c0_68 : Index := 0#32
  ![3, v106.toNat, 1, 0, 0]
def k0_off10 (k0_t1 : Fin k0_t1_loop.trips) : Fin 5 → Nat :=
  let c4 : Index := 4#32
  let c0_i32_15 : BitVec 32 := 0#32
  let c1_i32 : BitVec 32 := 1#32
  let arg11 : BitVec 32 := Scf.iv c0_i32_15 c1_i32 k0_t1
  let v124 : Index := Scalar.indexCast arg11
  let c0_72 : Index := 0#32
  let c0_73 : Index := 0#32
  let c0_74 : Index := 0#32
  ![4, v124.toNat, 0, 0, 0]
def k0_off11 (k0_t1 : Fin k0_t1_loop.trips) : Fin 5 → Nat :=
  let c4_75 : Index := 4#32
  let c0_i32_15 : BitVec 32 := 0#32
  let c1_i32 : BitVec 32 := 1#32
  let arg11 : BitVec 32 := Scf.iv c0_i32_15 c1_i32 k0_t1
  let v128 : Index := Scalar.indexCast arg11
  let c1_76 : Index := 1#32
  let c0_77 : Index := 0#32
  let c0_78 : Index := 0#32
  ![4, v128.toNat, 1, 0, 0]
def k0_off12 (k0_t1 : Fin k0_t1_loop.trips) : Fin 5 → Nat :=
  let c5 : Index := 5#32
  let c0_i32_15 : BitVec 32 := 0#32
  let c1_i32 : BitVec 32 := 1#32
  let arg11 : BitVec 32 := Scf.iv c0_i32_15 c1_i32 k0_t1
  let v146 : Index := Scalar.indexCast arg11
  let c0_82 : Index := 0#32
  let c0_83 : Index := 0#32
  let c0_84 : Index := 0#32
  ![5, v146.toNat, 0, 0, 0]
def k0_off13 (k0_t1 : Fin k0_t1_loop.trips) : Fin 5 → Nat :=
  let c5_85 : Index := 5#32
  let c0_i32_15 : BitVec 32 := 0#32
  let c1_i32 : BitVec 32 := 1#32
  let arg11 : BitVec 32 := Scf.iv c0_i32_15 c1_i32 k0_t1
  let v150 : Index := Scalar.indexCast arg11
  let c1_86 : Index := 1#32
  let c0_87 : Index := 0#32
  let c0_88 : Index := 0#32
  ![5, v150.toNat, 1, 0, 0]
def k0_off14 (k0_t1 : Fin k0_t1_loop.trips) : Fin 3 → Nat :=
  let c0_i32_15 : BitVec 32 := 0#32
  let c1_i32 : BitVec 32 := 1#32
  let arg11 : BitVec 32 := Scf.iv c0_i32_15 c1_i32 k0_t1
  let v314 : Index := Scalar.indexCast arg11
  let c0_164 : Index := 0#32
  let c0_165 : Index := 0#32
  ![v314.toNat, 0, 0]
def k0_off15 (k0_t1 : Fin k0_t1_loop.trips) : Fin 5 → Nat :=
  let c0_167 : Index := 0#32
  let c0_i32_15 : BitVec 32 := 0#32
  let c1_i32 : BitVec 32 := 1#32
  let arg11 : BitVec 32 := Scf.iv c0_i32_15 c1_i32 k0_t1
  let v322 : Index := Scalar.indexCast arg11
  let c0_168 : Index := 0#32
  let c0_169 : Index := 0#32
  let c0_170 : Index := 0#32
  ![0, v322.toNat, 0, 0, 0]
def k0_off16 (k0_t1 : Fin k0_t1_loop.trips) : Fin 5 → Nat :=
  let c1_171 : Index := 1#32
  let c0_i32_15 : BitVec 32 := 0#32
  let c1_i32 : BitVec 32 := 1#32
  let arg11 : BitVec 32 := Scf.iv c0_i32_15 c1_i32 k0_t1
  let v329 : Index := Scalar.indexCast arg11
  let c0_172 : Index := 0#32
  let c0_173 : Index := 0#32
  let c0_174 : Index := 0#32
  ![1, v329.toNat, 0, 0, 0]
def k0_off17 (k0_t1 : Fin k0_t1_loop.trips) : Fin 5 → Nat :=
  let c2_175 : Index := 2#32
  let c0_i32_15 : BitVec 32 := 0#32
  let c1_i32 : BitVec 32 := 1#32
  let arg11 : BitVec 32 := Scf.iv c0_i32_15 c1_i32 k0_t1
  let v336 : Index := Scalar.indexCast arg11
  let c0_176 : Index := 0#32
  let c0_177 : Index := 0#32
  let c0_178 : Index := 0#32
  ![2, v336.toNat, 0, 0, 0]
def k0_off18 (k0_t1 : Fin k0_t1_loop.trips) : Fin 5 → Nat :=
  let c3_179 : Index := 3#32
  let c0_i32_15 : BitVec 32 := 0#32
  let c1_i32 : BitVec 32 := 1#32
  let arg11 : BitVec 32 := Scf.iv c0_i32_15 c1_i32 k0_t1
  let v343 : Index := Scalar.indexCast arg11
  let c0_180 : Index := 0#32
  let c0_181 : Index := 0#32
  let c0_182 : Index := 0#32
  ![3, v343.toNat, 0, 0, 0]
def k0_off19 (k0_t1 : Fin k0_t1_loop.trips) : Fin 5 → Nat :=
  let c4_183 : Index := 4#32
  let c0_i32_15 : BitVec 32 := 0#32
  let c1_i32 : BitVec 32 := 1#32
  let arg11 : BitVec 32 := Scf.iv c0_i32_15 c1_i32 k0_t1
  let v350 : Index := Scalar.indexCast arg11
  let c0_184 : Index := 0#32
  let c0_185 : Index := 0#32
  let c0_186 : Index := 0#32
  ![4, v350.toNat, 0, 0, 0]
def k0_off20 (k0_t1 : Fin k0_t1_loop.trips) : Fin 5 → Nat :=
  let c5_187 : Index := 5#32
  let c0_i32_15 : BitVec 32 := 0#32
  let c1_i32 : BitVec 32 := 1#32
  let arg11 : BitVec 32 := Scf.iv c0_i32_15 c1_i32 k0_t1
  let v357 : Index := Scalar.indexCast arg11
  let c0_188 : Index := 0#32
  let c0_189 : Index := 0#32
  let c0_190 : Index := 0#32
  ![5, v357.toNat, 0, 0, 0]
def k0_off21 (k0_t1 : Fin k0_t1_loop.trips) : Fin 3 → Nat :=
  let c0_i32_15 : BitVec 32 := 0#32
  let c1_i32 : BitVec 32 := 1#32
  let arg11 : BitVec 32 := Scf.iv c0_i32_15 c1_i32 k0_t1
  let v414 : Index := Scalar.indexCast arg11
  let c1_219 : Index := 1#32
  let c0_220 : Index := 0#32
  ![v414.toNat, 1, 0]
def k0_off22 (k0_t1 : Fin k0_t1_loop.trips) : Fin 5 → Nat :=
  let c0_222 : Index := 0#32
  let c0_i32_15 : BitVec 32 := 0#32
  let c1_i32 : BitVec 32 := 1#32
  let arg11 : BitVec 32 := Scf.iv c0_i32_15 c1_i32 k0_t1
  let v422 : Index := Scalar.indexCast arg11
  let c1_223 : Index := 1#32
  let c0_224 : Index := 0#32
  let c0_225 : Index := 0#32
  ![0, v422.toNat, 1, 0, 0]
def k0_off23 (k0_t1 : Fin k0_t1_loop.trips) : Fin 5 → Nat :=
  let c1_226 : Index := 1#32
  let c0_i32_15 : BitVec 32 := 0#32
  let c1_i32 : BitVec 32 := 1#32
  let arg11 : BitVec 32 := Scf.iv c0_i32_15 c1_i32 k0_t1
  let v429 : Index := Scalar.indexCast arg11
  let c1_227 : Index := 1#32
  let c0_228 : Index := 0#32
  let c0_229 : Index := 0#32
  ![1, v429.toNat, 1, 0, 0]
def k0_off24 (k0_t1 : Fin k0_t1_loop.trips) : Fin 5 → Nat :=
  let c2_230 : Index := 2#32
  let c0_i32_15 : BitVec 32 := 0#32
  let c1_i32 : BitVec 32 := 1#32
  let arg11 : BitVec 32 := Scf.iv c0_i32_15 c1_i32 k0_t1
  let v436 : Index := Scalar.indexCast arg11
  let c1_231 : Index := 1#32
  let c0_232 : Index := 0#32
  let c0_233 : Index := 0#32
  ![2, v436.toNat, 1, 0, 0]
def k0_off25 (k0_t1 : Fin k0_t1_loop.trips) : Fin 5 → Nat :=
  let c3_234 : Index := 3#32
  let c0_i32_15 : BitVec 32 := 0#32
  let c1_i32 : BitVec 32 := 1#32
  let arg11 : BitVec 32 := Scf.iv c0_i32_15 c1_i32 k0_t1
  let v443 : Index := Scalar.indexCast arg11
  let c1_235 : Index := 1#32
  let c0_236 : Index := 0#32
  let c0_237 : Index := 0#32
  ![3, v443.toNat, 1, 0, 0]
def k0_off26 (k0_t1 : Fin k0_t1_loop.trips) : Fin 5 → Nat :=
  let c4_238 : Index := 4#32
  let c0_i32_15 : BitVec 32 := 0#32
  let c1_i32 : BitVec 32 := 1#32
  let arg11 : BitVec 32 := Scf.iv c0_i32_15 c1_i32 k0_t1
  let v450 : Index := Scalar.indexCast arg11
  let c1_239 : Index := 1#32
  let c0_240 : Index := 0#32
  let c0_241 : Index := 0#32
  ![4, v450.toNat, 1, 0, 0]
def k0_off27 (k0_t1 : Fin k0_t1_loop.trips) : Fin 5 → Nat :=
  let c5_242 : Index := 5#32
  let c0_i32_15 : BitVec 32 := 0#32
  let c1_i32 : BitVec 32 := 1#32
  let arg11 : BitVec 32 := Scf.iv c0_i32_15 c1_i32 k0_t1
  let v457 : Index := Scalar.indexCast arg11
  let c1_243 : Index := 1#32
  let c0_244 : Index := 0#32
  let c0_245 : Index := 0#32
  ![5, v457.toNat, 1, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2x100x8x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6x8x2x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x8x2x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x8x2x64x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x8x2x64x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S200x2x100x128 : Shape := ⟨4, ![200, 2, 100, 128]⟩
abbrev S200x2x100 : Shape := ⟨3, ![200, 2, 100]⟩
abbrev S128 : Shape := ⟨1, ![128]⟩
abbrev S6x200x2x128x64 : Shape := ⟨5, ![6, 200, 2, 128, 64]⟩
abbrev S200 : Shape := ⟨1, ![200]⟩
abbrev S200x1x1 : Shape := ⟨3, ![200, 1, 1]⟩
abbrev S2 : Shape := ⟨1, ![2]⟩
abbrev S1x2x1 : Shape := ⟨3, ![1, 2, 1]⟩
abbrev S100 : Shape := ⟨1, ![100]⟩
abbrev S1x1x100 : Shape := ⟨3, ![1, 1, 100]⟩
abbrev S_ : Shape := ⟨0, ![]⟩
abbrev S200x1x100 : Shape := ⟨3, ![200, 1, 100]⟩
abbrev S200x2x100x1 : Shape := ⟨4, ![200, 2, 100, 1]⟩
abbrev S2x1x1 : Shape := ⟨3, ![2, 1, 1]⟩
abbrev S128x1 : Shape := ⟨2, ![128, 1]⟩
abbrev S6x200x1x128x64 : Shape := ⟨5, ![6, 200, 1, 128, 64]⟩
abbrev S1x1x2x1x1 : Shape := ⟨5, ![1, 1, 2, 1, 1]⟩
abbrev S1x1x1x128x1 : Shape := ⟨5, ![1, 1, 1, 128, 1]⟩
abbrev S200x2x6x64x100 : Shape := ⟨5, ![200, 2, 6, 64, 100]⟩
abbrev S6x200x2x100x64 : Shape := ⟨5, ![6, 200, 2, 100, 64]⟩
abbrev S1x200x2x100x1 : Shape := ⟨5, ![1, 200, 2, 100, 1]⟩

abbrev nBuf : Space → Nat
  | .hbm => 76
  | .vmem => 2
  | .smem => 0
  | _ => 0

abbrev bufTy : (tb : Table) → Fin (tcTables nBuf tb) → BufTy
  | .hbm, ⟨0, _⟩ => ⟨S200x2x100x128, .fp8e4m3⟩
  | .hbm, ⟨1, _⟩ => ⟨S200x2x100, .f32⟩
  | .hbm, ⟨2, _⟩ => ⟨S128, .f32⟩
  | .hbm, ⟨3, _⟩ => ⟨S6x200x2x128x64, .bf16⟩
  | .hbm, ⟨4, _⟩ => ⟨S6x200x2x128x64, .bf16⟩
  | .hbm, ⟨5, _⟩ => ⟨S200, .i32⟩
  | .hbm, ⟨6, _⟩ => ⟨S200x1x1, .i32⟩
  | .hbm, ⟨7, _⟩ => ⟨S2, .i32⟩
  | .hbm, ⟨8, _⟩ => ⟨S1x2x1, .i32⟩
  | .hbm, ⟨9, _⟩ => ⟨S100, .i32⟩
  | .hbm, ⟨10, _⟩ => ⟨S1x1x100, .i32⟩
  | .hbm, ⟨11, _⟩ => ⟨S_, .i32⟩
  | .hbm, ⟨12, _⟩ => ⟨S1x1x100, .i32⟩
  | .hbm, ⟨13, _⟩ => ⟨S1x1x100, .i32⟩
  | .hbm, ⟨14, _⟩ => ⟨S200x1x100, .i32⟩
  | .hbm, ⟨15, _⟩ => ⟨S200x1x100, .i32⟩
  | .hbm, ⟨16, _⟩ => ⟨S200x1x100, .i32⟩
  | .hbm, ⟨17, _⟩ => ⟨S200x2x100, .i32⟩
  | .hbm, ⟨18, _⟩ => ⟨S200x2x100, .i32⟩
  | .hbm, ⟨19, _⟩ => ⟨S200x2x100, .i32⟩
  | .hbm, ⟨20, _⟩ => ⟨S_, .i32⟩
  | .hbm, ⟨21, _⟩ => ⟨S200x2x100, .i32⟩
  | .hbm, ⟨22, _⟩ => ⟨S200x2x100, .i1⟩
  | .hbm, ⟨23, _⟩ => ⟨S_, .f32⟩
  | .hbm, ⟨24, _⟩ => ⟨S_, .f32⟩
  | .hbm, ⟨25, _⟩ => ⟨S200x2x100, .f32⟩
  | .hbm, ⟨26, _⟩ => ⟨S200x2x100, .f32⟩
  | .hbm, ⟨27, _⟩ => ⟨S200x2x100x1, .f32⟩
  | .hbm, ⟨28, _⟩ => ⟨S2, .i32⟩
  | .hbm, ⟨29, _⟩ => ⟨S_, .i32⟩
  | .hbm, ⟨30, _⟩ => ⟨S2, .i32⟩
  | .hbm, ⟨31, _⟩ => ⟨S2, .i1⟩
  | .hbm, ⟨32, _⟩ => ⟨S_, .f32⟩
  | .hbm, ⟨33, _⟩ => ⟨S_, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S2x1x1, .f32⟩
  | .hbm, ⟨38, _⟩ => ⟨S128x1, .f32⟩
  | .hbm, ⟨39, _⟩ => ⟨S200x2x100x128, .bf16⟩
  | .hbm, ⟨40, _⟩ => ⟨S6x200x2x128x64, .f32⟩
  | .hbm, ⟨41, _⟩ => ⟨S6x200x1x128x64, .f32⟩
  | .hbm, ⟨42, _⟩ => ⟨S6x200x1x128x64, .f32⟩
  | .hbm, ⟨43, _⟩ => ⟨S1x1x2x1x1, .f32⟩
  | .hbm, ⟨44, _⟩ => ⟨S6x200x2x128x64, .f32⟩
  | .hbm, ⟨45, _⟩ => ⟨S6x200x2x128x64, .f32⟩
  | .hbm, ⟨46, _⟩ => ⟨S6x200x2x128x64, .f32⟩
  | .hbm, ⟨47, _⟩ => ⟨S6x200x2x128x64, .f32⟩
  | .hbm, ⟨48, _⟩ => ⟨S6x200x2x128x64, .f32⟩
  | .hbm, ⟨49, _⟩ => ⟨S1x1x1x128x1, .f32⟩
  | .hbm, ⟨50, _⟩ => ⟨S6x200x2x128x64, .f32⟩
  | .hbm, ⟨51, _⟩ => ⟨S6x200x2x128x64, .f32⟩
  | .hbm, ⟨52, _⟩ => ⟨S6x200x2x128x64, .bf16⟩
  | .hbm, ⟨53, _⟩ => ⟨S200x2x6x64x100, .f32⟩
  | .hbm, ⟨54, _⟩ => ⟨S6x200x2x100x64, .f32⟩
  | .hbm, ⟨55, _⟩ => ⟨S1x200x2x100x1, .f32⟩
  | .hbm, ⟨56, _⟩ => ⟨S6x200x2x100x64, .f32⟩
  | .hbm, ⟨57, _⟩ => ⟨S6x200x2x100x64, .f32⟩
  | .hbm, ⟨58, _⟩ => ⟨S6x200x2x128x64, .f32⟩
  | .hbm, ⟨59, _⟩ => ⟨S6x200x1x128x64, .f32⟩
  | .hbm, ⟨60, _⟩ => ⟨S6x200x1x128x64, .f32⟩
  | .hbm, ⟨61, _⟩ => ⟨S1x1x2x1x1, .f32⟩
  | .hbm, ⟨62, _⟩ => ⟨S6x200x2x128x64, .f32⟩
  | .hbm, ⟨63, _⟩ => ⟨S6x200x2x128x64, .f32⟩
  | .hbm, ⟨64, _⟩ => ⟨S6x200x2x128x64, .f32⟩
  | .hbm, ⟨65, _⟩ => ⟨S6x200x2x128x64, .f32⟩
  | .hbm, ⟨66, _⟩ => ⟨S6x200x2x128x64, .f32⟩
  | .hbm, ⟨67, _⟩ => ⟨S1x1x1x128x1, .f32⟩
  | .hbm, ⟨68, _⟩ => ⟨S6x200x2x128x64, .f32⟩
  | .hbm, ⟨69, _⟩ => ⟨S6x200x2x128x64, .f32⟩
  | .hbm, ⟨70, _⟩ => ⟨S6x200x2x128x64, .bf16⟩
  | .hbm, ⟨71, _⟩ => ⟨S200x2x6x64x100, .f32⟩
  | .hbm, ⟨72, _⟩ => ⟨S6x200x2x100x64, .f32⟩
  | .hbm, ⟨73, _⟩ => ⟨S1x200x2x100x1, .f32⟩
  | .hbm, ⟨74, _⟩ => ⟨S6x200x2x100x64, .f32⟩
  | .hbm, ⟨75, _⟩ => ⟨S6x200x2x100x64, .f32⟩
  | .local _ .vmem, ⟨0, _⟩ => ⟨S200x2x100x128, .fp8e4m3⟩
  | .local _ .vmem, ⟨1, _⟩ => ⟨S200x2x100x128, .bf16⟩
  | _, _ => ⟨S200x2x100x128, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S200x2x100x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x2x100x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Block.lean ====
/- What one grid point of the kernel computes, as pure functions of the blocks it is given, and the facts about the
   pieces it stores: which element each piece holds. Stated for any element operations `F`. -/
module

public import proofs.«01_k».proof.Proof.Gen.Kernel.Skeleton
public import Idealize.ShloMosaic.Lib.WritesUnit
public import Idealize.ShloMosaic.Lib.ValueIdxCore
public import Idealize.ShloMosaic.Lib.Pipeline.Value
public import Idealize.ShloMosaic.Lib.Pipeline.ValueKit.Tiles

@[expose] public section

set_option maxRecDepth 8192

noncomputable section

namespace Cert.Kernel.Hand

open Idealize.ShloMosaic Idealize.ShloMosaic.TcCoe Idealize.ShloMosaic.ValueIdx
open Cert.Kernel.Gen

variable {F : FTy → Type} [FloatOps F]

/-! ## The pure functions -/

/-- The north (`h = 0`) or south (`h = 1`) half of batch entry `b`, order `m`, as a 64 × 128 matrix. -/
def slab (x : Vec F S6x8x2x64x128 .bf16) (b : Fin 6) (m : Fin 8) (h : Fin 2) : FVec F S64x128 .bf16 :=
  fun j => x (ix5 b m h (j 0) (j 1))

/-- North plus south, weighted. -/
def evenV (w : FVec F S1x128 .f32) (a c : FVec F S64x128 .bf16) : FVec F S64x128 .bf16 :=
  truncf .bf16 (mulf (addf (extf .f32 a bitsLt_bf16_f32) (extf .f32 c bitsLt_bf16_f32)) (broadcastTo S64x128 w broadcasts_S1x128_S64x128)) bitsLt_bf16_f32

/-- North minus south, weighted. -/
def oddV (w : FVec F S1x128 .f32) (a c : FVec F S64x128 .bf16) : FVec F S64x128 .bf16 :=
  truncf .bf16 (mulf (subf (extf .f32 a bitsLt_bf16_f32) (extf .f32 c bitsLt_bf16_f32)) (broadcastTo S64x128 w broadcasts_S1x128_S64x128)) bitsLt_bf16_f32

/-- Row of the left operand holding part `i` (real, imaginary), batch entry `b`, channel `d`. -/
def rowIx (i : Fin 2) (b : Fin 6) (d : Fin 64) : Fin 768 := ⟨(6 * i.val + b.val) * 64 + d.val, by omega⟩

/-- Column of the product holding parity `p`, degree slot `k`. -/
def colIx (p : Fin 2) (k : Fin 100) : Fin 256 := ⟨p.val * 128 + k.val, by omega⟩

/-- The left operand of the product at order `m`: even halves in columns 0 to 127, odd halves in columns 128 to 255. -/
def lhsOf (w : FVec F S1x128 .f32) (xr xi : Vec F S6x8x2x64x128 .bf16) (m : Fin 8) : Vec F S768x256 .bf16 := fun j =>
  have h0 : (j 0).val < 768 := idx2_lt0 j
  have h1 : (j 1).val < 256 := idx2_lt1 j
  let x := if (j 0).val < 384 then xr else xi
  let b : Fin 6 := ⟨(j 0).val / 64 % 6, Nat.mod_lt _ (by decide)⟩
  let d : Fin 64 := ⟨(j 0).val % 64, Nat.mod_lt _ (by decide)⟩
  let t : Fin 128 := ⟨(j 1).val % 128, Nat.mod_lt _ (by decide)⟩
  if (j 1).val < 128 then evenV w (slab x b m 0) (slab x b m 1) (ix2 d t) else oddV w (slab x b m 0) (slab x b m 1) (ix2 d t)

/-- Whether an index of the right operand lies in one of its two diagonal blocks. -/
def inDiag (j : S256x256.Idx) : Prop :=
  ((j 0).val < 100 ∧ (j 1).val < 128) ∨ (128 ≤ (j 0).val ∧ (j 0).val < 228 ∧ 128 ≤ (j 1).val)

/-- Every element outside the two diagonal blocks is zero. -/
def OffDiag (g : Vec F S256x256 .bf16) : Prop := ∀ j : S256x256.Idx, ¬ inDiag j → g j = Scalar.ofBits .bf16 0x0000#16

/-- The right operand at order `m` of the table `x` (row `8 k + m` of parity `p`): two diagonal blocks, zero elsewhere. -/
def rhsOf (x : Vec F S2x800x128 .f32) (m : Fin 8) : Vec F S256x256 .bf16 := fun j =>
  if h : (j 0).val < 100 ∧ (j 1).val < 128 then
    FloatOps.truncf .bf16 bitsLt_bf16_f32 (x (ix3 (0 : Fin 2) ⟨8 * (j 0).val + m.val, by omega⟩ ⟨(j 1).val, h.2⟩))
  else if h : 128 ≤ (j 0).val ∧ (j 0).val < 228 ∧ 128 ≤ (j 1).val then
    FloatOps.truncf .bf16 bitsLt_bf16_f32 (x (ix3 (1 : Fin 2) ⟨8 * ((j 0).val - 128) + m.val, by omega⟩ ⟨(j 1).val - 128, by have := idx2_lt1 j; omega⟩))
  else Scalar.ofBits .bf16 0x0000#16

/-- The scale row with the entries outside the truncation replaced by zero. -/
def sclOf (s m : BitVec 32) (p : BitVec 32) (row : FVec F S1x100 .f32) : FVec F S1x100 .f32 :=
  select (cmpi .sle (addi (addi (broadcast S1x100 (Scalar.addi (Scalar.muli s 8#32) m))
      (muli (broadcast S1x100 2#32) (iota .tc S1x100 32 [1] iota_S1x100_d1_w32))) (broadcast S1x100 p)) (broadcast S1x100 199#32))
    row (broadcast S1x100 (Scalar.ofBits .f32 0x00000000#32))

/-- Row `(m, p)` of the scale block. -/
def srow (x : Vec F S8x2x100 .f32) (m : Fin 8) (p : Fin 2) : FVec F S1x100 .f32 := fun j => x (ix3 m p (j 1))

/-- The product at order `m`. -/
def prodOf (w : FVec F S1x128 .f32) (xr xi : Vec F S6x8x2x64x128 .bf16) (tab : Vec F S2x800x128 .f32) (m : Fin 8) : FVec F S768x256 .f32 :=
  k0_pay62 (lhsOf w xr xi m) (rhsOf tab m)

/-- One output block: part `i` of the product at every order, scaled. -/
def outOf (i : Fin 2) (s : BitVec 32) (w : FVec F S1x128 .f32) (xs : Vec F S8x2x100 .f32) (xr xi : Vec F S6x8x2x64x128 .bf16)
    (tab : Vec F S2x800x128 .f32) : Vec F S6x8x2x64x100 .f32 := fun j =>
  FloatOps.mulf (prodOf w xr xi tab (j 1) (ix2 (rowIx i (j 0) (j 3)) (colIx (j 2) (j 4))))
    (sclOf s (Scf.iv 0#32 1#32 (j 1 : Fin 8).val) (BitVec.ofNat 32 (j 2 : Fin 2).val) (srow xs (j 1) (j 2)) (ix2 (0 : Fin 1) (j 4)))

/-- The output block is right at every order below `k`. -/
def Upto (G g : Vec F S6x8x2x64x100 .f32) (k : ℕ) : Prop := ∀ j : S6x8x2x64x100.Idx, (j 1).val < k → g j = G j

/-! ## Reads of the blocks -/

theorem slab_eq (x : Vec F S6x8x2x64x128 .bf16) {off : Fin 5 → ℕ} (inb : ∀ a, off a + S1x1x1x64x128.size a ≤ S6x8x2x64x128.size a)
    (b : Fin 6) (m : Fin 8) (h : Fin 2) (ho : off = ![b.val, m.val, h.val, 0, 0]) :
    shapeCast S64x128 (fun j : S1x1x1x64x128.Idx => x ((Rect.unit (s := S6x8x2x64x128) off S1x1x1x64x128.size inb).idx j)) shapeCasts_S1x1x1x64x128_S64x128
      = slab x b m h := by
  subst ho
  funext j
  refine (shapeCast_apply _ _ _ (ix5 (0 : Fin 1) (0 : Fin 1) (0 : Fin 1) (j 0 : Fin 64) (j 1 : Fin 128)) (by rw [Shape.rowMajor_val_two, Shape.rowMajor_val_five]; simp)).trans ?_
  unfold slab
  refine congrArg x (funext fun a => Fin.ext ?_)
  refine (Rect.idx_unit_val _ _ inb _ a).trans ?_
  fin_cases a
  · rfl
  · rfl
  · rfl
  · exact Nat.zero_add _
  · exact Nat.zero_add _

theorem srow_eq (x : Vec F S8x2x100 .f32) {off : Fin 3 → ℕ} (inb : ∀ a, off a + S1x1x100.size a ≤ S8x2x100.size a)
    (m : Fin 8) (p : Fin 2) (ho : off = ![m.val, p.val, 0]) :
    shapeCast S1x100 (fun j : S1x1x100.Idx => x ((Rect.unit (s := S8x2x100) off S1x1x100.size inb).idx j)) shapeCasts_S1x1x100_S1x100
      = srow x m p := by
  subst ho
  funext j
  refine (shapeCast_apply _ _ _ (ix3 (0 : Fin 1) (0 : Fin 1) (j 1 : Fin 100)) (by
    have h0 : (j 0).val < 1 := idx2_lt0 j
    rw [Shape.rowMajor_val_three, Shape.rowMajor_val_two]; simp; omega)).trans ?_
  unfold srow
  refine congrArg x (funext fun a => Fin.ext ?_)
  refine (Rect.idx_unit_val _ _ inb _ a).trans ?_
  fin_cases a
  · rfl
  · rfl
  · exact Nat.zero_add _

/-! ## The pieces stored to the outputs -/

/-- The payload of one output store: a 64 × 100 box of the product, scaled. -/
def outPiece (off : Fin 2 → ℕ) (h : S768x256.Slices off S64x100) (y : FVec F S768x256 .f32) (s : FVec F S1x100 .f32) : FVec F S1x1x1x64x100 .f32 :=
  shapeCast S1x1x1x64x100 (mulf (extractStridedSlice S64x100 off y h) (broadcastTo S64x100 s broadcasts_S1x100_S64x100)) shapeCasts_S64x100_S1x1x1x64x100

theorem outPiece_apply {off : Fin 2 → ℕ} (h : S768x256.Slices off S64x100) (y : FVec F S768x256 .f32) (s : FVec F S1x100 .f32)
    (i : Fin 2) (b : Fin 6) (p : Fin 2) (ho : off = ![(6 * i.val + b.val) * 64, p.val * 128]) (x : S1x1x1x64x100.Idx) :
    outPiece off h y s x = FloatOps.mulf (y (ix2 (rowIx i b (x 3)) (colIx p (x 4)))) (s (ix2 (0 : Fin 1) (x 4 : Fin 100))) := by
  subst ho
  unfold outPiece
  refine (shapeCast_apply _ _ _ (ix2 (x 3 : Fin 64) (x 4 : Fin 100)) (by
    have h0 : (x 0).val < 1 := (x 0).isLt
    have h1 : (x 1).val < 1 := (x 1).isLt
    have h2 : (x 2).val < 1 := (x 2).isLt
    rw [Shape.rowMajor_val_two, Shape.rowMajor_val_five]; simp; omega)).trans ?_
  show FloatOps.mulf (extractStridedSlice S64x100 _ y h _) (broadcastTo S64x100 s _ _) = _
  exact congrArg₂ FloatOps.mulf
    (extractStridedSlice_apply _ _ _ _ (ix2 (rowIx i b (x 3)) (colIx p (x 4))) (by intro a; fin_cases a <;> rfl))
    (broadcastTo_apply _ _ _ (ix2 (0 : Fin 1) (x 4 : Fin 100)) (by intro a; fin_cases a <;> rfl))

section Out
variable {κ : Kind} {sp : Space} (v : View sig κ sp S6x8x2x64x100 .f32) (f : BufTy.Contents (Elt F) v.ty)

/-- One output store read back: the stored plane has the block's value, every other element what was there. -/
theorem read_out_cons (i : Fin 2) (s : BitVec 32) (w : FVec F S1x128 .f32) (xs : Vec F S8x2x100 .f32) (xr xi : Vec F S6x8x2x64x128 .bf16)
    (tab : Vec F S2x800x128 .f32) (m : Fin 8) (b : Fin 6) (p : Fin 2) {off : Fin 5 → ℕ} (ho : off = ![b.val, m.val, p.val, 0, 0])
    (inb : ∀ a, off a + S1x1x1x64x100.size a ≤ S6x8x2x64x100.size a) {off2 : Fin 2 → ℕ} (h2 : S768x256.Slices off2 S64x100)
    (ho2 : off2 = ![(6 * i.val + b.val) * 64, p.val * 128]) (y : FVec F S768x256 .f32) (hy : y = prodOf w xr xi tab m)
    (sc : FVec F S1x100 .f32) (hs : sc = sclOf s (Scf.iv 0#32 1#32 m.val) (BitVec.ofNat 32 p.val) (srow xs m p))
    (L : List (View.Piece (Elt F) S6x8x2x64x100 .f32)) (j : S6x8x2x64x100.Idx) :
    v.read (Elt F) (v.writes (Elt F) f ((⟨Rect.unit off S1x1x1x64x100.size inb, outPiece off2 h2 y sc⟩ : View.Piece (Elt F) S6x8x2x64x100 .f32) :: L)) j
      = if (j 0).val = b.val ∧ (j 1).val = m.val ∧ (j 2).val = p.val then outOf i s w xs xr xi tab j
        else v.read (Elt F) (v.writes (Elt F) f L) j := by
  by_cases h : (j 0).val = b.val ∧ (j 1).val = m.val ∧ (j 2).val = p.val
  · obtain ⟨e0, e1, e2⟩ := h
    rw [if_pos ⟨e0, e1, e2⟩]
    rw [View.read_writes_cons_unit_of_mem v f inb _ L j (ix5 (0 : Fin 1) (0 : Fin 1) (0 : Fin 1) (j 3 : Fin 64) (j 4 : Fin 100)) ho (by
      intro a
      fin_cases a
      · exact e0
      · exact e1
      · exact e2
      · exact (Nat.zero_add _).symm
      · exact (Nat.zero_add _).symm)]
    rw [outPiece_apply h2 y sc i b p ho2]
    have e0' : (j 0 : Fin 6) = b := Fin.ext e0
    have e1' : (j 1 : Fin 8) = m := Fin.ext e1
    have e2' : (j 2 : Fin 2) = p := Fin.ext e2
    subst hy hs
    unfold outOf
    subst e0' e1' e2'
    rfl
  · rw [if_neg h]
    have : (j 0).val ≠ b.val ∨ (j 1).val ≠ m.val ∨ (j 2).val ≠ p.val := by omega
    rcases this with h | h | h
    · exact View.read_writes_cons_unit_of_not_mem v f inb _ L j ho 0 (by show (j 0).val < b.val ∨ b.val + 1 ≤ (j 0).val; omega)
    · exact View.read_writes_cons_unit_of_not_mem v f inb _ L j ho 1 (by show (j 1).val < m.val ∨ m.val + 1 ≤ (j 1).val; omega)
    · exact View.read_writes_cons_unit_of_not_mem v f inb _ L j ho 2 (by show (j 2).val < p.val ∨ p.val + 1 ≤ (j 2).val; omega)

end Out

/-! ## The pieces stored to the right operand -/

section Rhs
variable {κ : Kind} {sp : Space} (v : View sig κ sp S256x256 .bf16) (f : BufTy.Contents (Elt F) v.ty)

/-- The two diagonal blocks stored over a right operand that is zero off them: it is the right operand of this order. -/
theorem read_rhs (tab : Vec F S2x800x128 .f32) (m : Fin 8) (w0 w1 : FVec F S100x128 .bf16)
    (hw0 : ∀ (a : Fin 100) (b : Fin 128), w0 (ix2 a b) = FloatOps.truncf .bf16 bitsLt_bf16_f32 (tab (ix3 (0 : Fin 2) ⟨8 * a.val + m.val, by omega⟩ b)))
    (hw1 : ∀ (a : Fin 100) (b : Fin 128), w1 (ix2 a b) = FloatOps.truncf .bf16 bitsLt_bf16_f32 (tab (ix3 (1 : Fin 2) ⟨8 * a.val + m.val, by omega⟩ b)))
    (hf : OffDiag (v.read (Elt F) f)) (inb1 : ∀ a, (![128, 128] : Fin 2 → ℕ) a + S100x128.size a ≤ S256x256.size a)
    (inb0 : ∀ a, (![0, 0] : Fin 2 → ℕ) a + S100x128.size a ≤ S256x256.size a) :
    v.read (Elt F) (v.writes (Elt F) f [(⟨Rect.unit ![128, 128] S100x128.size inb1, w1⟩ : View.Piece (Elt F) S256x256 .bf16), ⟨Rect.unit ![0, 0] S100x128.size inb0, w0⟩])
      = rhsOf tab m := by
  funext j
  have l0 : (j 0).val < 256 := idx2_lt0 j
  have l1 : (j 1).val < 256 := idx2_lt1 j
  unfold rhsOf
  by_cases h1 : 128 ≤ (j 0).val ∧ (j 0).val < 228 ∧ 128 ≤ (j 1).val
  · rw [dif_neg (by omega), dif_pos h1]
    rw [View.read_writes_cons_unit_of_mem v f inb1 _ _ j (ix2 (⟨(j 0).val - 128, by omega⟩ : Fin 100) (⟨(j 1).val - 128, by omega⟩ : Fin 128)) rfl (by
      intro a
      fin_cases a
      · show (j 0).val = 128 + ((j 0).val - 128); omega
      · show (j 1).val = 128 + ((j 1).val - 128); omega)]
    exact hw1 _ _
  · have e : v.read (Elt F) (v.writes (Elt F) f [(⟨Rect.unit ![128, 128] S100x128.size inb1, w1⟩ : View.Piece (Elt F) S256x256 .bf16), ⟨Rect.unit ![0, 0] S100x128.size inb0, w0⟩]) j
        = v.read (Elt F) (v.writes (Elt F) f [(⟨Rect.unit ![0, 0] S100x128.size inb0, w0⟩ : View.Piece (Elt F) S256x256 .bf16)]) j := by
      have : (j 0).val < 128 ∨ 228 ≤ (j 0).val ∨ (j 1).val < 128 := by omega
      rcases this with h | h | h
      · exact View.read_writes_cons_unit_of_not_mem v f inb1 _ _ j rfl 0 (Or.inl h)
      · exact View.read_writes_cons_unit_of_not_mem v f inb1 _ _ j rfl 0 (Or.inr h)
      · exact View.read_writes_cons_unit_of_not_mem v f inb1 _ _ j rfl 1 (Or.inl h)
    rw [e]
    by_cases h0 : (j 0).val < 100 ∧ (j 1).val < 128
    · rw [dif_pos h0]
      rw [View.read_writes_cons_unit_of_mem v f inb0 _ _ j (ix2 (⟨(j 0).val, h0.1⟩ : Fin 100) (⟨(j 1).val, h0.2⟩ : Fin 128)) rfl (by
        intro a
        fin_cases a
        · exact (Nat.zero_add _).symm
        · exact (Nat.zero_add _).symm)]
      exact hw0 _ _
    · rw [dif_neg h0, dif_neg h1]
      have e2 : v.read (Elt F) (v.writes (Elt F) f [(⟨Rect.unit ![0, 0] S100x128.size inb0, w0⟩ : View.Piece (Elt F) S256x256 .bf16)]) j = v.read (Elt F) f j := by
        have : 100 ≤ (j 0).val ∨ 128 ≤ (j 1).val := by omega
        rcases this with h | h
        · exact View.read_writes_cons_unit_of_not_mem v f inb0 _ _ j rfl 0 (Or.inr (by show 0 + 100 ≤ (j 0).val; omega))
        · exact View.read_writes_cons_unit_of_not_mem v f inb0 _ _ j rfl 1 (Or.inr (by show 0 + 128 ≤ (j 1).val; omega))
      rw [e2]
      exact hf j (by unfold inDiag; omega)

end Rhs

theorem offDiag_rhsOf (tab : Vec F S2x800x128 .f32) (m : Fin 8) : OffDiag (rhsOf tab m) := by
  intro j hj
  unfold inDiag at hj
  unfold rhsOf
  rw [dif_neg (by omega), dif_neg (by omega)]

/-! ## The pieces stored to the left operand -/

/-- The payload of an even store. -/
def evenPiece (w : FVec F S1x128 .f32) (u c : FVec F S1x1x1x64x128 .bf16) : FVec F S64x128 .bf16 :=
  shapeCast S64x128 (evenV (shapeCast S1x128 w shapeCasts_S1x128_S1x128) (shapeCast S64x128 u shapeCasts_S1x1x1x64x128_S64x128) (shapeCast S64x128 c shapeCasts_S1x1x1x64x128_S64x128)) shapeCasts_S64x128_S64x128

/-- The payload of an odd store. -/
def oddPiece (w : FVec F S1x128 .f32) (u c : FVec F S1x1x1x64x128 .bf16) : FVec F S64x128 .bf16 :=
  shapeCast S64x128 (oddV (shapeCast S1x128 w shapeCasts_S1x128_S1x128) (shapeCast S64x128 u shapeCasts_S1x1x1x64x128_S64x128) (shapeCast S64x128 c shapeCasts_S1x1x1x64x128_S64x128)) shapeCasts_S64x128_S64x128

/-- Half `h` of batch entry `b` at order `m`, as the kernel loads it. -/
def ldSlab (x : Vec F S6x8x2x64x128 .bf16) (off : Fin 5 → ℕ) (inb : ∀ a, off a + S1x1x1x64x128.size a ≤ S6x8x2x64x128.size a) : FVec F S1x1x1x64x128 .bf16 :=
  fun j => x ((Rect.unit (s := S6x8x2x64x128) off S1x1x1x64x128.size inb).idx j)

theorem tile_even (w : FVec F S1x128 .f32) (xr xi x : Vec F S6x8x2x64x128 .bf16) (m : Fin 8) (i : Fin 2) (b : Fin 6)
    (hx : x = if i.val = 0 then xr else xi) {offa offb : Fin 5 → ℕ}
    (ha : ∀ a, offa a + S1x1x1x64x128.size a ≤ S6x8x2x64x128.size a) (hb : ∀ a, offb a + S1x1x1x64x128.size a ≤ S6x8x2x64x128.size a)
    (ea : offa = ![b.val, m.val, 0, 0, 0]) (eb : offb = ![b.val, m.val, 1, 0, 0]) {r : ℕ} (hr : r = (6 * i.val + b.val) * 64) (y : S768x256.Idx) :
    View.TileAt (Val := Elt F) (S := S768x256) (e := .bf16) y ![r, 0] S64x128.size (evenPiece w (ldSlab x offa ha) (ldSlab x offb hb)) (lhsOf w xr xi m y) := by
  intro z hz
  have h0 : (y 0).val = r + (z 0).val := hz 0
  have h1 : (y 1).val = 0 + (z 1).val := hz 1
  have l0 : (z 0).val < 64 := (z 0).isLt
  have l1 : (z 1).val < 128 := (z 1).isLt
  unfold evenPiece ldSlab
  rw [shapeCast_self, shapeCast_self, slab_eq x ha b m 0 ea, slab_eq x hb b m 1 eb]
  unfold lhsOf
  rw [if_pos (by omega)]
  have eX : (if (y 0).val < 384 then xr else xi) = x := by
    rw [hx]; congr 1; apply propext; omega
  rw [eX]
  have eB : (⟨(y 0).val / 64 % 6, Nat.mod_lt _ (by decide)⟩ : Fin 6) = b := Fin.ext (by show (y 0).val / 64 % 6 = b.val; omega)
  rw [eB]
  refine congrArg (evenV w (slab x b m 0) (slab x b m 1)) ?_
  refine funext fun a => Fin.ext ?_
  fin_cases a
  · show (z 0).val = (y 0).val % 64; omega
  · show (z 1).val = (y 1).val % 128; omega

theorem tile_odd (w : FVec F S1x128 .f32) (xr xi x : Vec F S6x8x2x64x128 .bf16) (m : Fin 8) (i : Fin 2) (b : Fin 6)
    (hx : x = if i.val = 0 then xr else xi) {offa offb : Fin 5 → ℕ}
    (ha : ∀ a, offa a + S1x1x1x64x128.size a ≤ S6x8x2x64x128.size a) (hb : ∀ a, offb a + S1x1x1x64x128.size a ≤ S6x8x2x64x128.size a)
    (ea : offa = ![b.val, m.val, 0, 0, 0]) (eb : offb = ![b.val, m.val, 1, 0, 0]) {r : ℕ} (hr : r = (6 * i.val + b.val) * 64) (y : S768x256.Idx) :
    View.TileAt (Val := Elt F) (S := S768x256) (e := .bf16) y ![r, 128] S64x128.size (oddPiece w (ldSlab x offa ha) (ldSlab x offb hb)) (lhsOf w xr xi m y) := by
  intro z hz
  have h0 : (y 0).val = r + (z 0).val := hz 0
  have h1 : (y 1).val = 128 + (z 1).val := hz 1
  have l0 : (z 0).val < 64 := (z 0).isLt
  have l1 : (z 1).val < 128 := (z 1).isLt
  unfold oddPiece ldSlab
  rw [shapeCast_self, shapeCast_self, slab_eq x ha b m 0 ea, slab_eq x hb b m 1 eb]
  unfold lhsOf
  rw [if_neg (by omega)]
  have eX : (if (y 0).val < 384 then xr else xi) = x := by
    rw [hx]; congr 1; apply propext; omega
  rw [eX]
  have eB : (⟨(y 0).val / 64 % 6, Nat.mod_lt _ (by decide)⟩ : Fin 6) = b := Fin.ext (by show (y 0).val / 64 % 6 = b.val; omega)
  rw [eB]
  refine congrArg (oddV w (slab x b m 0) (slab x b m 1)) ?_
  refine funext fun a => Fin.ext ?_
  fin_cases a
  · show (z 0).val = (y 0).val % 64; omega
  · show (z 1).val = (y 1).val % 128; omega

end Cert.Kernel.Hand

end
-- ==== Proof.Kernel.Loop.lean ====
/- The loop over the eight orders of one grid point: what one trip leaves, and the invariant the loop is run by. -/
module

public import proofs.«01_k».proof.Proof.Kernel.Block
public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 8192

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]
local notation "𝕄" => MT nD τ sig Unit (Elt F) ℕ (UR sig nD τ) ℕ

/-- The order a trip works on, as an index below eight. -/
def ordIx (k : Fin k0_t1_loop.trips) : Fin 8 := ⟨k.val, Nat.lt_of_lt_of_le k.isLt k0_t1_abs.2.1⟩

/-! ## What one trip stores -/

theorem ite_stop {α : Type} {p : Prop} [Decidable p] {a b g : α} (ha : a = g) (hb : ¬ p → b = g) : (if p then a else b) = g := by
  by_cases h : p
  · rw [if_pos h]; exact ha
  · rw [if_neg h]; exact hb h

/-- The strided load of the table: row `8 a + m` of parity `p`. -/
theorem read_table (M : Memref sig .tc .vmem S2x800x128 .f32) (X : BufTy.Contents (Elt F) M.view.ty) (m : Fin 8) (p : Fin 2)
    {off3 : Fin 3 → ℕ} (h3 : ∀ a, off3 a + S1x800x128.size a ≤ S2x800x128.size a) (e3 : off3 = ![p.val, 0, 0])
    {off : Fin 2 → ℕ} (h : ∀ (a : Fin 2), S100x128.size a = 0 ∨ off a + (![8, 1] : Fin 2 → ℕ) a * (S100x128.size a - 1) < S800x128.size a) (e : off = ![m.val, 0]) (a : Fin 100) (b : Fin 128) :
    View.readAt (Elt F) ((M.slice (Rect.unit (s := S2x800x128) off3 S1x800x128.size h3) (fun _ => rfl)).squeeze S800x128 squeezes_S1x800x128_S800x128).view
        (⟨off, S100x128.size, ![8, 1], h⟩ : LoadRect S800x128) X (ix2 a b)
      = M.view.read (Elt F) X (ix3 p ⟨8 * a.val + m.val, by omega⟩ b) := by
  subst e3 e
  have hc : (Rect.unit (s := S2x800x128) ![p.val, 0, 0] S1x800x128.size h3).shape.ShapeCasts S800x128 := (by decide : S1x800x128.ShapeCasts S800x128)
  show shapeCast S800x128 (View.readAt (Elt F) M.view (Rect.unit (s := S2x800x128) ![p.val, 0, 0] S1x800x128.size h3).toLoadRect X) hc
    ((⟨![m.val, 0], S100x128.size, ![8, 1], h⟩ : LoadRect S800x128).idx (ix2 a b)) = _
  refine (shapeCast_apply _ hc _ (ix3 (0 : Fin 1) (⟨8 * a.val + m.val, by omega⟩ : Fin 800) b) (by
    rw [Shape.rowMajor_val_three, Shape.rowMajor_val_two]
    show (0 * 800 + (8 * a.val + m.val)) * 128 + b.val = (m.val + 8 * a.val) * 128 + (0 + 1 * b.val)
    omega)).trans ?_
  refine congrArg (M.view.read (Elt F) X) (funext fun d => Fin.ext ?_)
  refine (Rect.idx_unit_val _ _ h3 _ d).trans ?_
  fin_cases d
  · rfl
  · exact Nat.zero_add _
  · exact Nat.zero_add _

/-- The twenty-four stores to the left operand, last first. -/
def lhsPieces (w : FVec F S1x128 .f32) (xr xi : Vec F S6x8x2x64x128 .bf16) (k : Fin k0_t1_loop.trips) : List (View.Piece (Elt F) S768x256 .bf16) :=
  [(⟨Rect.unit (s := S768x256) ![704, 128] S64x128.size inb_S768x256_S64x128_704_128, oddPiece w (ldSlab xi (k0_off12 k) (k0_off12_inb k)) (ldSlab xi (k0_off13 k) (k0_off13_inb k))⟩ : View.Piece (Elt F) S768x256 .bf16),
   (⟨Rect.unit (s := S768x256) ![704, 0] S64x128.size inb_S768x256_S64x128_704_0, evenPiece w (ldSlab xi (k0_off12 k) (k0_off12_inb k)) (ldSlab xi (k0_off13 k) (k0_off13_inb k))⟩ : View.Piece (Elt F) S768x256 .bf16),
   (⟨Rect.unit (s := S768x256) ![640, 128] S64x128.size inb_S768x256_S64x128_640_128, oddPiece w (ldSlab xi (k0_off10 k) (k0_off10_inb k)) (ldSlab xi (k0_off11 k) (k0_off11_inb k))⟩ : View.Piece (Elt F) S768x256 .bf16),
   (⟨Rect.unit (s := S768x256) ![640, 0] S64x128.size inb_S768x256_S64x128_640_0, evenPiece w (ldSlab xi (k0_off10 k) (k0_off10_inb k)) (ldSlab xi (k0_off11 k) (k0_off11_inb k))⟩ : View.Piece (Elt F) S768x256 .bf16),
   (⟨Rect.unit (s := S768x256) ![576, 128] S64x128.size inb_S768x256_S64x128_576_128, oddPiece w (ldSlab xi (k0_off8 k) (k0_off8_inb k)) (ldSlab xi (k0_off9 k) (k0_off9_inb k))⟩ : View.Piece (Elt F) S768x256 .bf16),
   (⟨Rect.unit (s := S768x256) ![576, 0] S64x128.size inb_S768x256_S64x128_576_0, evenPiece w (ldSlab xi (k0_off8 k) (k0_off8_inb k)) (ldSlab xi (k0_off9 k) (k0_off9_inb k))⟩ : View.Piece (Elt F) S768x256 .bf16),
   (⟨Rect.unit (s := S768x256) ![512, 128] S64x128.size inb_S768x256_S64x128_512_128, oddPiece w (ldSlab xi (k0_off6 k) (k0_off6_inb k)) (ldSlab xi (k0_off7 k) (k0_off7_inb k))⟩ : View.Piece (Elt F) S768x256 .bf16),
   (⟨Rect.unit (s := S768x256) ![512, 0] S64x128.size inb_S768x256_S64x128_512_0, evenPiece w (ldSlab xi (k0_off6 k) (k0_off6_inb k)) (ldSlab xi (k0_off7 k) (k0_off7_inb k))⟩ : View.Piece (Elt F) S768x256 .bf16),
   (⟨Rect.unit (s := S768x256) ![448, 128] S64x128.size inb_S768x256_S64x128_448_128, oddPiece w (ldSlab xi (k0_off4 k) (k0_off4_inb k)) (ldSlab xi (k0_off5 k) (k0_off5_inb k))⟩ : View.Piece (Elt F) S768x256 .bf16),
   (⟨Rect.unit (s := S768x256) ![448, 0] S64x128.size inb_S768x256_S64x128_448_0, evenPiece w (ldSlab xi (k0_off4 k) (k0_off4_inb k)) (ldSlab xi (k0_off5 k) (k0_off5_inb k))⟩ : View.Piece (Elt F) S768x256 .bf16),
   (⟨Rect.unit (s := S768x256) ![384, 128] S64x128.size inb_S768x256_S64x128_384_128, oddPiece w (ldSlab xi (k0_off2 k) (k0_off2_inb k)) (ldSlab xi (k0_off3 k) (k0_off3_inb k))⟩ : View.Piece (Elt F) S768x256 .bf16),
   (⟨Rect.unit (s := S768x256) ![384, 0] S64x128.size inb_S768x256_S64x128_384_0, evenPiece w (ldSlab xi (k0_off2 k) (k0_off2_inb k)) (ldSlab xi (k0_off3 k) (k0_off3_inb k))⟩ : View.Piece (Elt F) S768x256 .bf16),
   (⟨Rect.unit (s := S768x256) ![320, 128] S64x128.size inb_S768x256_S64x128_320_128, oddPiece w (ldSlab xr (k0_off12 k) (k0_off12_inb k)) (ldSlab xr (k0_off13 k) (k0_off13_inb k))⟩ : View.Piece (Elt F) S768x256 .bf16),
   (⟨Rect.unit (s := S768x256) ![320, 0] S64x128.size inb_S768x256_S64x128_320_0, evenPiece w (ldSlab xr (k0_off12 k) (k0_off12_inb k)) (ldSlab xr (k0_off13 k) (k0_off13_inb k))⟩ : View.Piece (Elt F) S768x256 .bf16),
   (⟨Rect.unit (s := S768x256) ![256, 128] S64x128.size inb_S768x256_S64x128_256_128, oddPiece w (ldSlab xr (k0_off10 k) (k0_off10_inb k)) (ldSlab xr (k0_off11 k) (k0_off11_inb k))⟩ : View.Piece (Elt F) S768x256 .bf16),
   (⟨Rect.unit (s := S768x256) ![256, 0] S64x128.size inb_S768x256_S64x128_256_0, evenPiece w (ldSlab xr (k0_off10 k) (k0_off10_inb k)) (ldSlab xr (k0_off11 k) (k0_off11_inb k))⟩ : View.Piece (Elt F) S768x256 .bf16),
   (⟨Rect.unit (s := S768x256) ![192, 128] S64x128.size inb_S768x256_S64x128_192_128, oddPiece w (ldSlab xr (k0_off8 k) (k0_off8_inb k)) (ldSlab xr (k0_off9 k) (k0_off9_inb k))⟩ : View.Piece (Elt F) S768x256 .bf16),
   (⟨Rect.unit (s := S768x256) ![192, 0] S64x128.size inb_S768x256_S64x128_192_0, evenPiece w (ldSlab xr (k0_off8 k) (k0_off8_inb k)) (ldSlab xr (k0_off9 k) (k0_off9_inb k))⟩ : View.Piece (Elt F) S768x256 .bf16),
   (⟨Rect.unit (s := S768x256) ![128, 128] S64x128.size inb_S768x256_S64x128_128_128, oddPiece w (ldSlab xr (k0_off6 k) (k0_off6_inb k)) (ldSlab xr (k0_off7 k) (k0_off7_inb k))⟩ : View.Piece (Elt F) S768x256 .bf16),
   (⟨Rect.unit (s := S768x256) ![128, 0] S64x128.size inb_S768x256_S64x128_128_0, evenPiece w (ldSlab xr (k0_off6 k) (k0_off6_inb k)) (ldSlab xr (k0_off7 k) (k0_off7_inb k))⟩ : View.Piece (Elt F) S768x256 .bf16),
   (⟨Rect.unit (s := S768x256) ![64, 128] S64x128.size inb_S768x256_S64x128_64_128, oddPiece w (ldSlab xr (k0_off4 k) (k0_off4_inb k)) (ldSlab xr (k0_off5 k) (k0_off5_inb k))⟩ : View.Piece (Elt F) S768x256 .bf16),
   (⟨Rect.unit (s := S768x256) ![64, 0] S64x128.size inb_S768x256_S64x128_64_0, evenPiece w (ldSlab xr (k0_off4 k) (k0_off4_inb k)) (ldSlab xr (k0_off5 k) (k0_off5_inb k))⟩ : View.Piece (Elt F) S768x256 .bf16),
   (⟨Rect.unit (s := S768x256) ![0, 128] S64x128.size inb_S768x256_S64x128_0_128, oddPiece w (ldSlab xr (k0_off2 k) (k0_off2_inb k)) (ldSlab xr (k0_off3 k) (k0_off3_inb k))⟩ : View.Piece (Elt F) S768x256 .bf16),
   (⟨Rect.unit (s := S768x256) ![0, 0] S64x128.size inb_S768x256_S64x128_0_0, evenPiece w (ldSlab xr (k0_off2 k) (k0_off2_inb k)) (ldSlab xr (k0_off3 k) (k0_off3_inb k))⟩ : View.Piece (Elt F) S768x256 .bf16)]

theorem lhsPieces_allAt (w : FVec F S1x128 .f32) (xr xi : Vec F S6x8x2x64x128 .bf16) (k : Fin k0_t1_loop.trips) (y : S768x256.Idx) :
    View.AllAt (lhsPieces w xr xi k) y (lhsOf w xr xi (ordIx k) y) := by
  unfold lhsPieces
  refine View.allAt_cons_unit _ _ _ _ _ (tile_odd w xr xi xi (ordIx k) 1 5 rfl _ _ (k0_off12_eq k) (k0_off13_eq k) rfl y) ?_
  refine View.allAt_cons_unit _ _ _ _ _ (tile_even w xr xi xi (ordIx k) 1 5 rfl _ _ (k0_off12_eq k) (k0_off13_eq k) rfl y) ?_
  refine View.allAt_cons_unit _ _ _ _ _ (tile_odd w xr xi xi (ordIx k) 1 4 rfl _ _ (k0_off10_eq k) (k0_off11_eq k) rfl y) ?_
  refine View.allAt_cons_unit _ _ _ _ _ (tile_even w xr xi xi (ordIx k) 1 4 rfl _ _ (k0_off10_eq k) (k0_off11_eq k) rfl y) ?_
  refine View.allAt_cons_unit _ _ _ _ _ (tile_odd w xr xi xi (ordIx k) 1 3 rfl _ _ (k0_off8_eq k) (k0_off9_eq k) rfl y) ?_
  refine View.allAt_cons_unit _ _ _ _ _ (tile_even w xr xi xi (ordIx k) 1 3 rfl _ _ (k0_off8_eq k) (k0_off9_eq k) rfl y) ?_
  refine View.allAt_cons_unit _ _ _ _ _ (tile_odd w xr xi xi (ordIx k) 1 2 rfl _ _ (k0_off6_eq k) (k0_off7_eq k) rfl y) ?_
  refine View.allAt_cons_unit _ _ _ _ _ (tile_even w xr xi xi (ordIx k) 1 2 rfl _ _ (k0_off6_eq k) (k0_off7_eq k) rfl y) ?_
  refine View.allAt_cons_unit _ _ _ _ _ (tile_odd w xr xi xi (ordIx k) 1 1 rfl _ _ (k0_off4_eq k) (k0_off5_eq k) rfl y) ?_
  refine View.allAt_cons_unit _ _ _ _ _ (tile_even w xr xi xi (ordIx k) 1 1 rfl _ _ (k0_off4_eq k) (k0_off5_eq k) rfl y) ?_
  refine View.allAt_cons_unit _ _ _ _ _ (tile_odd w xr xi xi (ordIx k) 1 0 rfl _ _ (k0_off2_eq k) (k0_off3_eq k) rfl y) ?_
  refine View.allAt_cons_unit _ _ _ _ _ (tile_even w xr xi xi (ordIx k) 1 0 rfl _ _ (k0_off2_eq k) (k0_off3_eq k) rfl y) ?_
  refine View.allAt_cons_unit _ _ _ _ _ (tile_odd w xr xi xr (ordIx k) 0 5 rfl _ _ (k0_off12_eq k) (k0_off13_eq k) rfl y) ?_
  refine View.allAt_cons_unit _ _ _ _ _ (tile_even w xr xi xr (ordIx k) 0 5 rfl _ _ (k0_off12_eq k) (k0_off13_eq k) rfl y) ?_
  refine View.allAt_cons_unit _ _ _ _ _ (tile_odd w xr xi xr (ordIx k) 0 4 rfl _ _ (k0_off10_eq k) (k0_off11_eq k) rfl y) ?_
  refine View.allAt_cons_unit _ _ _ _ _ (tile_even w xr xi xr (ordIx k) 0 4 rfl _ _ (k0_off10_eq k) (k0_off11_eq k) rfl y) ?_
  refine View.allAt_cons_unit _ _ _ _ _ (tile_odd w xr xi xr (ordIx k) 0 3 rfl _ _ (k0_off8_eq k) (k0_off9_eq k) rfl y) ?_
  refine View.allAt_cons_unit _ _ _ _ _ (tile_even w xr xi xr (ordIx k) 0 3 rfl _ _ (k0_off8_eq k) (k0_off9_eq k) rfl y) ?_
  refine View.allAt_cons_unit _ _ _ _ _ (tile_odd w xr xi xr (ordIx k) 0 2 rfl _ _ (k0_off6_eq k) (k0_off7_eq k) rfl y) ?_
  refine View.allAt_cons_unit _ _ _ _ _ (tile_even w xr xi xr (ordIx k) 0 2 rfl _ _ (k0_off6_eq k) (k0_off7_eq k) rfl y) ?_
  refine View.allAt_cons_unit _ _ _ _ _ (tile_odd w xr xi xr (ordIx k) 0 1 rfl _ _ (k0_off4_eq k) (k0_off5_eq k) rfl y) ?_
  refine View.allAt_cons_unit _ _ _ _ _ (tile_even w xr xi xr (ordIx k) 0 1 rfl _ _ (k0_off4_eq k) (k0_off5_eq k) rfl y) ?_
  refine View.allAt_cons_unit _ _ _ _ _ (tile_odd w xr xi xr (ordIx k) 0 0 rfl _ _ (k0_off2_eq k) (k0_off3_eq k) rfl y) ?_
  refine View.allAt_cons_unit _ _ _ _ _ (tile_even w xr xi xr (ordIx k) 0 0 rfl _ _ (k0_off2_eq k) (k0_off3_eq k) rfl y) ?_
  exact View.allAt_nil _ _

/-- The left operand read back after its stores. -/
theorem readCov_lhs (v : View sig .tc .vmem S768x256 .bf16) (w : FVec F S1x128 .f32) (xr xi : Vec F S6x8x2x64x128 .bf16) (k : Fin k0_t1_loop.trips) :
    v.readCov (lhsPieces w xr xi k) (Rect.unit (s := S768x256) ![0, 0] S768x256.size inb_S768x256_S768x256_0_0).toLoadRect = lhsOf w xr xi (ordIx k) := by
  rw [View.readCov_eq_canon']
  funext j
  have e : (Rect.unit (s := S768x256) ![0, 0] S768x256.size inb_S768x256_S768x256_0_0).toLoadRect.idx j = j := funext fun d => Fin.ext (by
    refine (Rect.idx_unit_val _ _ inb_S768x256_S768x256_0_0 j d).trans ?_
    fin_cases d
    · exact Nat.zero_add _
    · exact Nat.zero_add _)
  refine (congrArg (View.canon (lhsPieces w xr xi k)) e).trans ?_
  exact View.canon_eq_of_allAt _ _ _ (View.cover_of_tiled (s := S768x256) (lhsPieces w xr xi k) S64x128.size (by rfl) j) (lhsPieces_allAt w xr xi k j)

/-- The twelve stores of one trip to output 0, last first: parity 1 then parity 0. -/
def outPieces0 (y : FVec F S768x256 .f32) (s0 s1 : FVec F S1x100 .f32) (k : Fin k0_t1_loop.trips) : List (View.Piece (Elt F) S6x8x2x64x100 .f32) :=
  [(⟨Rect.unit (s := S6x8x2x64x100) (k0_off27 k) S1x1x1x64x100.size (k0_off27_inb k), outPiece ![320, 128] slices_S768x256_o320_128_S64x100 y s1⟩ : View.Piece (Elt F) S6x8x2x64x100 .f32),
   (⟨Rect.unit (s := S6x8x2x64x100) (k0_off26 k) S1x1x1x64x100.size (k0_off26_inb k), outPiece ![256, 128] slices_S768x256_o256_128_S64x100 y s1⟩ : View.Piece (Elt F) S6x8x2x64x100 .f32),
   (⟨Rect.unit (s := S6x8x2x64x100) (k0_off25 k) S1x1x1x64x100.size (k0_off25_inb k), outPiece ![192, 128] slices_S768x256_o192_128_S64x100 y s1⟩ : View.Piece (Elt F) S6x8x2x64x100 .f32),
   (⟨Rect.unit (s := S6x8x2x64x100) (k0_off24 k) S1x1x1x64x100.size (k0_off24_inb k), outPiece ![128, 128] slices_S768x256_o128_128_S64x100 y s1⟩ : View.Piece (Elt F) S6x8x2x64x100 .f32),
   (⟨Rect.unit (s := S6x8x2x64x100) (k0_off23 k) S1x1x1x64x100.size (k0_off23_inb k), outPiece ![64, 128] slices_S768x256_o64_128_S64x100 y s1⟩ : View.Piece (Elt F) S6x8x2x64x100 .f32),
   (⟨Rect.unit (s := S6x8x2x64x100) (k0_off22 k) S1x1x1x64x100.size (k0_off22_inb k), outPiece ![0, 128] slices_S768x256_o0_128_S64x100 y s1⟩ : View.Piece (Elt F) S6x8x2x64x100 .f32),
   (⟨Rect.unit (s := S6x8x2x64x100) (k0_off20 k) S1x1x1x64x100.size (k0_off20_inb k), outPiece ![320, 0] slices_S768x256_o320_0_S64x100 y s0⟩ : View.Piece (Elt F) S6x8x2x64x100 .f32),
   (⟨Rect.unit (s := S6x8x2x64x100) (k0_off19 k) S1x1x1x64x100.size (k0_off19_inb k), outPiece ![256, 0] slices_S768x256_o256_0_S64x100 y s0⟩ : View.Piece (Elt F) S6x8x2x64x100 .f32),
   (⟨Rect.unit (s := S6x8x2x64x100) (k0_off18 k) S1x1x1x64x100.size (k0_off18_inb k), outPiece ![192, 0] slices_S768x256_o192_0_S64x100 y s0⟩ : View.Piece (Elt F) S6x8x2x64x100 .f32),
   (⟨Rect.unit (s := S6x8x2x64x100) (k0_off17 k) S1x1x1x64x100.size (k0_off17_inb k), outPiece ![128, 0] slices_S768x256_o128_0_S64x100 y s0⟩ : View.Piece (Elt F) S6x8x2x64x100 .f32),
   (⟨Rect.unit (s := S6x8x2x64x100) (k0_off16 k) S1x1x1x64x100.size (k0_off16_inb k), outPiece ![64, 0] slices_S768x256_o64_0_S64x100 y s0⟩ : View.Piece (Elt F) S6x8x2x64x100 .f32),
   (⟨Rect.unit (s := S6x8x2x64x100) (k0_off15 k) S1x1x1x64x100.size (k0_off15_inb k), outPiece ![0, 0] slices_S768x256_o0_0_S64x100 y s0⟩ : View.Piece (Elt F) S6x8x2x64x100 .f32)]

/-- One trip takes output 0 from right below `k` to right below `k + 1`. -/
theorem upto_step0 (v : View sig .tc .vmem S6x8x2x64x100 .f32) (f : BufTy.Contents (Elt F) v.ty) (s : BitVec 32) (w : FVec F S1x128 .f32) (xs : Vec F S8x2x100 .f32)
    (xr xi : Vec F S6x8x2x64x128 .bf16) (tab : Vec F S2x800x128 .f32) (k : Fin k0_t1_loop.trips) (y : FVec F S768x256 .f32) (hy : y = prodOf w xr xi tab (ordIx k))
    (s0 s1 : FVec F S1x100 .f32) (h0 : s0 = sclOf s (Scf.iv 0#32 1#32 (ordIx k).val) (BitVec.ofNat 32 (0 : Fin 2).val) (srow xs (ordIx k) 0))
    (h1 : s1 = sclOf s (Scf.iv 0#32 1#32 (ordIx k).val) (BitVec.ofNat 32 (1 : Fin 2).val) (srow xs (ordIx k) 1))
    (hf : Upto (outOf 0 s w xs xr xi tab) (v.read (Elt F) f) k.val) :
    Upto (outOf 0 s w xs xr xi tab) (v.read (Elt F) (v.writes (Elt F) f (outPieces0 y s0 s1 k))) (k.val + 1) := by
  intro j hj
  unfold outPieces0
  refine (read_out_cons v f 0 s w xs xr xi tab (ordIx k) 5 1 (k0_off27_eq k) (k0_off27_inb k) slices_S768x256_o320_128_S64x100 rfl y hy s1 h1 _ j).trans (ite_stop rfl fun n15 => ?_)
  refine (read_out_cons v f 0 s w xs xr xi tab (ordIx k) 4 1 (k0_off26_eq k) (k0_off26_inb k) slices_S768x256_o256_128_S64x100 rfl y hy s1 h1 _ j).trans (ite_stop rfl fun n14 => ?_)
  refine (read_out_cons v f 0 s w xs xr xi tab (ordIx k) 3 1 (k0_off25_eq k) (k0_off25_inb k) slices_S768x256_o192_128_S64x100 rfl y hy s1 h1 _ j).trans (ite_stop rfl fun n13 => ?_)
  refine (read_out_cons v f 0 s w xs xr xi tab (ordIx k) 2 1 (k0_off24_eq k) (k0_off24_inb k) slices_S768x256_o128_128_S64x100 rfl y hy s1 h1 _ j).trans (ite_stop rfl fun n12 => ?_)
  refine (read_out_cons v f 0 s w xs xr xi tab (ordIx k) 1 1 (k0_off23_eq k) (k0_off23_inb k) slices_S768x256_o64_128_S64x100 rfl y hy s1 h1 _ j).trans (ite_stop rfl fun n11 => ?_)
  refine (read_out_cons v f 0 s w xs xr xi tab (ordIx k) 0 1 (k0_off22_eq k) (k0_off22_inb k) slices_S768x256_o0_128_S64x100 rfl y hy s1 h1 _ j).trans (ite_stop rfl fun n10 => ?_)
  refine (read_out_cons v f 0 s w xs xr xi tab (ordIx k) 5 0 (k0_off20_eq k) (k0_off20_inb k) slices_S768x256_o320_0_S64x100 rfl y hy s0 h0 _ j).trans (ite_stop rfl fun n05 => ?_)
  refine (read_out_cons v f 0 s w xs xr xi tab (ordIx k) 4 0 (k0_off19_eq k) (k0_off19_inb k) slices_S768x256_o256_0_S64x100 rfl y hy s0 h0 _ j).trans (ite_stop rfl fun n04 => ?_)
  refine (read_out_cons v f 0 s w xs xr xi tab (ordIx k) 3 0 (k0_off18_eq k) (k0_off18_inb k) slices_S768x256_o192_0_S64x100 rfl y hy s0 h0 _ j).trans (ite_stop rfl fun n03 => ?_)
  refine (read_out_cons v f 0 s w xs xr xi tab (ordIx k) 2 0 (k0_off17_eq k) (k0_off17_inb k) slices_S768x256_o128_0_S64x100 rfl y hy s0 h0 _ j).trans (ite_stop rfl fun n02 => ?_)
  refine (read_out_cons v f 0 s w xs xr xi tab (ordIx k) 1 0 (k0_off16_eq k) (k0_off16_inb k) slices_S768x256_o64_0_S64x100 rfl y hy s0 h0 _ j).trans (ite_stop rfl fun n01 => ?_)
  refine (read_out_cons v f 0 s w xs xr xi tab (ordIx k) 0 0 (k0_off15_eq k) (k0_off15_inb k) slices_S768x256_o0_0_S64x100 rfl y hy s0 h0 _ j).trans (ite_stop rfl fun n00 => ?_)
  have l0 : (j 0).val < 6 := (j 0).isLt
  have l2 : (j 2).val < 2 := (j 2).isLt
  by_cases e : (j 1).val = k.val
  · exfalso
    have hk : (ordIx k).val = k.val := rfl
    have v0 : (0 : Fin 6).val = 0 := rfl
    have v1 : (1 : Fin 6).val = 1 := rfl
    have v2 : (2 : Fin 6).val = 2 := rfl
    have v3 : (3 : Fin 6).val = 3 := rfl
    have v4 : (4 : Fin 6).val = 4 := rfl
    have v5 : (5 : Fin 6).val = 5 := rfl
    have u0 : (0 : Fin 2).val = 0 := rfl
    have u1 : (1 : Fin 2).val = 1 := rfl
    simp only [hk, v0, v1, v2, v3, v4, v5, u0, u1, e, true_and] at *
    omega
  · exact hf j (by omega)

/-- The twelve stores of one trip to output 1, last first: parity 1 then parity 0. -/
def outPieces1 (y : FVec F S768x256 .f32) (s0 s1 : FVec F S1x100 .f32) (k : Fin k0_t1_loop.trips) : List (View.Piece (Elt F) S6x8x2x64x100 .f32) :=
  [(⟨Rect.unit (s := S6x8x2x64x100) (k0_off27 k) S1x1x1x64x100.size (k0_off27_inb k), outPiece ![704, 128] slices_S768x256_o704_128_S64x100 y s1⟩ : View.Piece (Elt F) S6x8x2x64x100 .f32),
   (⟨Rect.unit (s := S6x8x2x64x100) (k0_off26 k) S1x1x1x64x100.size (k0_off26_inb k), outPiece ![640, 128] slices_S768x256_o640_128_S64x100 y s1⟩ : View.Piece (Elt F) S6x8x2x64x100 .f32),
   (⟨Rect.unit (s := S6x8x2x64x100) (k0_off25 k) S1x1x1x64x100.size (k0_off25_inb k), outPiece ![576, 128] slices_S768x256_o576_128_S64x100 y s1⟩ : View.Piece (Elt F) S6x8x2x64x100 .f32),
   (⟨Rect.unit (s := S6x8x2x64x100) (k0_off24 k) S1x1x1x64x100.size (k0_off24_inb k), outPiece ![512, 128] slices_S768x256_o512_128_S64x100 y s1⟩ : View.Piece (Elt F) S6x8x2x64x100 .f32),
   (⟨Rect.unit (s := S6x8x2x64x100) (k0_off23 k) S1x1x1x64x100.size (k0_off23_inb k), outPiece ![448, 128] slices_S768x256_o448_128_S64x100 y s1⟩ : View.Piece (Elt F) S6x8x2x64x100 .f32),
   (⟨Rect.unit (s := S6x8x2x64x100) (k0_off22 k) S1x1x1x64x100.size (k0_off22_inb k), outPiece ![384, 128] slices_S768x256_o384_128_S64x100 y s1⟩ : View.Piece (Elt F) S6x8x2x64x100 .f32),
   (⟨Rect.unit (s := S6x8x2x64x100) (k0_off20 k) S1x1x1x64x100.size (k0_off20_inb k), outPiece ![704, 0] slices_S768x256_o704_0_S64x100 y s0⟩ : View.Piece (Elt F) S6x8x2x64x100 .f32),
   (⟨Rect.unit (s := S6x8x2x64x100) (k0_off19 k) S1x1x1x64x100.size (k0_off19_inb k), outPiece ![640, 0] slices_S768x256_o640_0_S64x100 y s0⟩ : View.Piece (Elt F) S6x8x2x64x100 .f32),
   (⟨Rect.unit (s := S6x8x2x64x100) (k0_off18 k) S1x1x1x64x100.size (k0_off18_inb k), outPiece ![576, 0] slices_S768x256_o576_0_S64x100 y s0⟩ : View.Piece (Elt F) S6x8x2x64x100 .f32),
   (⟨Rect.unit (s := S6x8x2x64x100) (k0_off17 k) S1x1x1x64x100.size (k0_off17_inb k), outPiece ![512, 0] slices_S768x256_o512_0_S64x100 y s0⟩ : View.Piece (Elt F) S6x8x2x64x100 .f32),
   (⟨Rect.unit (s := S6x8x2x64x100) (k0_off16 k) S1x1x1x64x100.size (k0_off16_inb k), outPiece ![448, 0] slices_S768x256_o448_0_S64x100 y s0⟩ : View.Piece (Elt F) S6x8x2x64x100 .f32),
   (⟨Rect.unit (s := S6x8x2x64x100) (k0_off15 k) S1x1x1x64x100.size (k0_off15_inb k), outPiece ![384, 0] slices_S768x256_o384_0_S64x100 y s0⟩ : View.Piece (Elt F) S6x8x2x64x100 .f32)]

/-- One trip takes output 1 from right below `k` to right below `k + 1`. -/
theorem upto_step1 (v : View sig .tc .vmem S6x8x2x64x100 .f32) (f : BufTy.Contents (Elt F) v.ty) (s : BitVec 32) (w : FVec F S1x128 .f32) (xs : Vec F S8x2x100 .f32)
    (xr xi : Vec F S6x8x2x64x128 .bf16) (tab : Vec F S2x800x128 .f32) (k : Fin k0_t1_loop.trips) (y : FVec F S768x256 .f32) (hy : y = prodOf w xr xi tab (ordIx k))
    (s0 s1 : FVec F S1x100 .f32) (h0 : s0 = sclOf s (Scf.iv 0#32 1#32 (ordIx k).val) (BitVec.ofNat 32 (0 : Fin 2).val) (srow xs (ordIx k) 0))
    (h1 : s1 = sclOf s (Scf.iv 0#32 1#32 (ordIx k).val) (BitVec.ofNat 32 (1 : Fin 2).val) (srow xs (ordIx k) 1))
    (hf : Upto (outOf 1 s w xs xr xi tab) (v.read (Elt F) f) k.val) :
    Upto (outOf 1 s w xs xr xi tab) (v.read (Elt F) (v.writes (Elt F) f (outPieces1 y s0 s1 k))) (k.val + 1) := by
  intro j hj
  unfold outPieces1
  refine (read_out_cons v f 1 s w xs xr xi tab (ordIx k) 5 1 (k0_off27_eq k) (k0_off27_inb k) slices_S768x256_o704_128_S64x100 rfl y hy s1 h1 _ j).trans (ite_stop rfl fun n15 => ?_)
  refine (read_out_cons v f 1 s w xs xr xi tab (ordIx k) 4 1 (k0_off26_eq k) (k0_off26_inb k) slices_S768x256_o640_128_S64x100 rfl y hy s1 h1 _ j).trans (ite_stop rfl fun n14 => ?_)
  refine (read_out_cons v f 1 s w xs xr xi tab (ordIx k) 3 1 (k0_off25_eq k) (k0_off25_inb k) slices_S768x256_o576_128_S64x100 rfl y hy s1 h1 _ j).trans (ite_stop rfl fun n13 => ?_)
  refine (read_out_cons v f 1 s w xs xr xi tab (ordIx k) 2 1 (k0_off24_eq k) (k0_off24_inb k) slices_S768x256_o512_128_S64x100 rfl y hy s1 h1 _ j).trans (ite_stop rfl fun n12 => ?_)
  refine (read_out_cons v f 1 s w xs xr xi tab (ordIx k) 1 1 (k0_off23_eq k) (k0_off23_inb k) slices_S768x256_o448_128_S64x100 rfl y hy s1 h1 _ j).trans (ite_stop rfl fun n11 => ?_)
  refine (read_out_cons v f 1 s w xs xr xi tab (ordIx k) 0 1 (k0_off22_eq k) (k0_off22_inb k) slices_S768x256_o384_128_S64x100 rfl y hy s1 h1 _ j).trans (ite_stop rfl fun n10 => ?_)
  refine (read_out_cons v f 1 s w xs xr xi tab (ordIx k) 5 0 (k0_off20_eq k) (k0_off20_inb k) slices_S768x256_o704_0_S64x100 rfl y hy s0 h0 _ j).trans (ite_stop rfl fun n05 => ?_)
  refine (read_out_cons v f 1 s w xs xr xi tab (ordIx k) 4 0 (k0_off19_eq k) (k0_off19_inb k) slices_S768x256_o640_0_S64x100 rfl y hy s0 h0 _ j).trans (ite_stop rfl fun n04 => ?_)
  refine (read_out_cons v f 1 s w xs xr xi tab (ordIx k) 3 0 (k0_off18_eq k) (k0_off18_inb k) slices_S768x256_o576_0_S64x100 rfl y hy s0 h0 _ j).trans (ite_stop rfl fun n03 => ?_)
  refine (read_out_cons v f 1 s w xs xr xi tab (ordIx k) 2 0 (k0_off17_eq k) (k0_off17_inb k) slices_S768x256_o512_0_S64x100 rfl y hy s0 h0 _ j).trans (ite_stop rfl fun n02 => ?_)
  refine (read_out_cons v f 1 s w xs xr xi tab (ordIx k) 1 0 (k0_off16_eq k) (k0_off16_inb k) slices_S768x256_o448_0_S64x100 rfl y hy s0 h0 _ j).trans (ite_stop rfl fun n01 => ?_)
  refine (read_out_cons v f 1 s w xs xr xi tab (ordIx k) 0 0 (k0_off15_eq k) (k0_off15_inb k) slices_S768x256_o384_0_S64x100 rfl y hy s0 h0 _ j).trans (ite_stop rfl fun n00 => ?_)
  have l0 : (j 0).val < 6 := (j 0).isLt
  have l2 : (j 2).val < 2 := (j 2).isLt
  by_cases e : (j 1).val = k.val
  · exfalso
    have hk : (ordIx k).val = k.val := rfl
    have v0 : (0 : Fin 6).val = 0 := rfl
    have v1 : (1 : Fin 6).val = 1 := rfl
    have v2 : (2 : Fin 6).val = 2 := rfl
    have v3 : (3 : Fin 6).val = 3 := rfl
    have v4 : (4 : Fin 6).val = 4 := rfl
    have v5 : (5 : Fin 6).val = 5 := rfl
    have u0 : (0 : Fin 2).val = 0 := rfl
    have u1 : (1 : Fin 2).val = 1 := rfl
    simp only [hk, v0, v1, v2, v3, v4, v5, u0, u1, e, true_and] at *
    omega
  · exact hf j (by omega)

/-! ## The trip -/

set_option maxHeartbeats 4000000 in
/-- One trip: the inputs and the table unchanged, both outputs right at one more order, the right operand zero off its
    diagonal blocks again. -/
theorem trip (𝒱 : Variants) (c : Dev nD) (bd : Option 𝒱.V) (i : grid0.Coords) (arg1 : Memref sig .tc .vmem S2x100x8x128 .fp8e4m3) (harg1 : arg1.IsWhole) (arg2 : Memref sig .tc .vmem S8x2x100 .f32) (harg2 : arg2.IsWhole) (arg3 : Memref sig .tc .vmem S1x128 .f32) (harg3 : arg3.IsWhole) (arg4 : Memref sig .tc .vmem S6x8x2x64x128 .bf16) (harg4 : arg4.IsWhole) (arg5 : Memref sig .tc .vmem S6x8x2x64x128 .bf16) (harg5 : arg5.IsWhole) (arg6 : Memref sig .tc .vmem S6x8x2x64x100 .f32) (harg6 : arg6.IsWhole) (arg7 : Memref sig .tc .vmem S6x8x2x64x100 .f32) (harg7 : arg7.IsWhole) (arg8 : Memref sig .tc .vmem S2x800x128 .f32) (harg8 : arg8.IsWhole) (arg9 : Memref sig .tc .vmem S256x256 .bf16) (harg9 : arg9.IsWhole) (arg10 : Memref sig .tc .vmem S768x256 .bf16) (harg10 : arg10.IsWhole) (arg0 : BitVec 32) (v17 : Vec F S1x128 .f32) (E : Set ℕ) (k : Fin k0_t1_loop.trips) (Xarg2 : BufTy.Contents (Elt F) arg2.view.ty) (Xarg4 : BufTy.Contents (Elt F) arg4.view.ty) (Xarg5 : BufTy.Contents (Elt F) arg5.view.ty) (Xarg8 : BufTy.Contents (Elt F) arg8.view.ty) (Xarg6 : BufTy.Contents (Elt F) arg6.view.ty) (Xarg7 : BufTy.Contents (Elt F) arg7.view.ty) (Xarg9 : BufTy.Contents (Elt F) arg9.view.ty) (Xarg10 : BufTy.Contents (Elt F) arg10.view.ty)
    (h6 : Upto (outOf 0 arg0 v17 (arg2.view.read (Elt F) Xarg2) (arg4.view.read (Elt F) Xarg4) (arg5.view.read (Elt F) Xarg5) (arg8.view.read (Elt F) Xarg8)) (arg6.view.read (Elt F) Xarg6) k.val)
    (h7 : Upto (outOf 1 arg0 v17 (arg2.view.read (Elt F) Xarg2) (arg4.view.read (Elt F) Xarg4) (arg5.view.read (Elt F) Xarg5) (arg8.view.read (Elt F) Xarg8)) (arg7.view.read (Elt F) Xarg7) k.val)
    (h9 : OffDiag (arg9.view.read (Elt F) Xarg9)) :
    (iprop((arg2.view.loc (c : Thread nD τ) ↦[arg2.view.set]{fullShare} Xarg2) ∗ (arg4.view.loc (c : Thread nD τ) ↦[arg4.view.set]{fullShare} Xarg4) ∗ (arg5.view.loc (c : Thread nD τ) ↦[arg5.view.set]{fullShare} Xarg5) ∗ (arg8.view.loc (c : Thread nD τ) ↦[arg8.view.set]{fullShare} Xarg8) ∗ (arg6.view.loc (c : Thread nD τ) ↦[arg6.view.set]{fullShare} Xarg6) ∗ (arg7.view.loc (c : Thread nD τ) ↦[arg7.view.set]{fullShare} Xarg7) ∗ (arg9.view.loc (c : Thread nD τ) ↦[arg9.view.set]{fullShare} Xarg9) ∗ (arg10.view.loc (c : Thread nD τ) ↦[arg10.view.set]{fullShare} Xarg10)) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg0 v17 k PUnit.unit)
          (fun _ => iprop((arg2.view.loc (c : Thread nD τ) ↦[arg2.view.set]{fullShare} Xarg2) ∗ (arg4.view.loc (c : Thread nD τ) ↦[arg4.view.set]{fullShare} Xarg4) ∗ (arg5.view.loc (c : Thread nD τ) ↦[arg5.view.set]{fullShare} Xarg5) ∗ (arg8.view.loc (c : Thread nD τ) ↦[arg8.view.set]{fullShare} Xarg8) ∗ (∃ f, (arg6.view.loc (c : Thread nD τ) ↦[arg6.view.set]{fullShare} f) ∗ ⌜Upto (outOf 0 arg0 v17 (arg2.view.read (Elt F) Xarg2) (arg4.view.read (Elt F) Xarg4) (arg5.view.read (Elt F) Xarg5) (arg8.view.read (Elt F) Xarg8)) (arg6.view.read (Elt F) f) (k.val + 1)⌝) ∗ (∃ f, (arg7.view.loc (c : Thread nD τ) ↦[arg7.view.set]{fullShare} f) ∗ ⌜Upto (outOf 1 arg0 v17 (arg2.view.read (Elt F) Xarg2) (arg4.view.read (Elt F) Xarg4) (arg5.view.read (Elt F) Xarg5) (arg8.view.read (Elt F) Xarg8)) (arg7.view.read (Elt F) f) (k.val + 1)⌝) ∗ (∃ f, (arg9.view.loc (c : Thread nD τ) ↦[arg9.view.set]{fullShare} f) ∗ ⌜OffDiag (arg9.view.read (Elt F) f)⌝) ∗ (∃ f, (arg10.view.loc (c : Thread nD τ) ↦[arg10.view.set]{fullShare} f)))) := by
  unfold k0_t1_body
  iintro ⟨H2, H4, H5, H8, H6, H7, H9, H10⟩
  sl_exec
  sl_step
  have e9 : arg9.view.read (Elt F) (arg9.view.writes (Elt F) Xarg9 [(⟨Rect.unit ![128, 128] S100x128.size inb_S256x256_S100x128_128_128, k0_pay8 (View.readAt (Elt F) ((arg8.slice (Rect.unit (s := S2x800x128) ![1, 0, 0] S1x800x128.size inb_S2x800x128_S1x800x128_1_0_0) (fun _ => rfl)).squeeze S800x128 squeezes_S1x800x128_S800x128).view (⟨k0_off1 k, S100x128.size, ![8, 1], (k0_off1_inb k)⟩ : LoadRect S800x128) Xarg8)⟩ : View.Piece (Elt F) S256x256 .bf16), ⟨Rect.unit ![0, 0] S100x128.size inb_S256x256_S100x128_0_0, k0_pay7 (View.readAt (Elt F) ((arg8.slice (Rect.unit (s := S2x800x128) ![0, 0, 0] S1x800x128.size inb_S2x800x128_S1x800x128_0_0_0) (fun _ => rfl)).squeeze S800x128 squeezes_S1x800x128_S800x128).view (⟨k0_off1 k, S100x128.size, ![8, 1], (k0_off1_inb k)⟩ : LoadRect S800x128) Xarg8)⟩])
      = rhsOf (arg8.view.read (Elt F) Xarg8) (ordIx k) :=
    read_rhs arg9.view Xarg9 (arg8.view.read (Elt F) Xarg8) (ordIx k) _ _
      (fun a b => by
        unfold k0_pay7
        rw [shapeCast_self]
        exact congrArg (FloatOps.truncf .bf16 bitsLt_bf16_f32) (read_table arg8 Xarg8 (ordIx k) 0 _ rfl _ (k0_off1_eq k) a b))
      (fun a b => by
        unfold k0_pay8
        rw [shapeCast_self]
        exact congrArg (FloatOps.truncf .bf16 bitsLt_bf16_f32) (read_table arg8 Xarg8 (ordIx k) 1 _ rfl _ (k0_off1_eq k) a b))
      h9 _ _
  have eL : trip.sl.v300 (F := F) arg4 arg5 arg10 v17 k Xarg4 Xarg5 = lhsOf v17 (arg4.view.read (Elt F) Xarg4) (arg5.view.read (Elt F) Xarg5) (ordIx k) :=
    readCov_lhs arg10.view v17 _ _ k
  have eR : View.readAt (Elt F) arg9.view (Rect.unit (s := S256x256) ![0, 0] S256x256.size inb_S256x256_S256x256_0_0).toLoadRect
      (arg9.view.writes (Elt F) Xarg9 (trip.sl.H9_2 (F := F) arg8 k Xarg8)) = rhsOf (arg8.view.read (Elt F) Xarg8) (ordIx k) := by
    refine Eq.trans (funext fun j => ?_) e9
    refine congrArg (arg9.view.read (Elt F) _) (funext fun d => Fin.ext ?_)
    refine (Rect.idx_unit_val _ _ inb_S256x256_S256x256_0_0 j d).trans ?_
    fin_cases d
    · exact Nat.zero_add _
    · exact Nat.zero_add _
  have eY : trip.sl.r_9 (F := F) arg4 arg5 arg8 arg9 arg10 v17 k Xarg4 Xarg5 Xarg8 Xarg9 = prodOf v17 (arg4.view.read (Elt F) Xarg4) (arg5.view.read (Elt F) Xarg5) (arg8.view.read (Elt F) Xarg8) (ordIx k) :=
    congrArg₂ k0_pay62 eL eR
  have eS0 : trip.sl.r_11 (F := F) arg2 arg0 k Xarg2 = sclOf arg0 (Scf.iv 0#32 1#32 (ordIx k).val) (BitVec.ofNat 32 (0 : Fin 2).val) (srow (arg2.view.read (Elt F) Xarg2) (ordIx k) 0) :=
    congrArg (sclOf arg0 (Scf.iv 0#32 1#32 (ordIx k).val) (BitVec.ofNat 32 (0 : Fin 2).val)) (srow_eq (arg2.view.read (Elt F) Xarg2) _ (ordIx k) 0 (k0_off14_eq k))
  have eS1 : trip.sl.r_16 (F := F) arg2 arg0 k Xarg2 = sclOf arg0 (Scf.iv 0#32 1#32 (ordIx k).val) (BitVec.ofNat 32 (1 : Fin 2).val) (srow (arg2.view.read (Elt F) Xarg2) (ordIx k) 1) :=
    congrArg (sclOf arg0 (Scf.iv 0#32 1#32 (ordIx k).val) (BitVec.ofNat 32 (1 : Fin 2).val)) (srow_eq (arg2.view.read (Elt F) Xarg2) _ (ordIx k) 1 (k0_off21_eq k))
  isplitl [H2]; · iexact H2
  isplitl [H4]; · iexact H4
  isplitl [H5]; · iexact H5
  isplitl [H8]; · iexact H8
  isplitl [H6]
  · iexists _; isplitl [H6]; · iexact H6
    ipureintro
    exact upto_step0 arg6.view Xarg6 arg0 v17 _ _ _ _ k _ eY _ _ eS0 eS1 h6
  isplitl [H7]
  · iexists _; isplitl [H7]; · iexact H7
    ipureintro
    exact upto_step1 arg7.view Xarg7 arg0 v17 _ _ _ _ k _ eY _ _ eS0 eS1 h7
  isplitl [H9]
  · iexists _; isplitl [H9]; · iexact H9
    ipureintro
    have e := offDiag_rhsOf (arg8.view.read (Elt F) Xarg8) (ordIx k)
    rw [← e9] at e
    exact e
  · iexists _; iexact H10

/-- The invariant before trip `k`: the inputs and the table as they are, both outputs right at every order below `k`, the
    right operand zero off its diagonal blocks, the left operand anything. -/
abbrev loopInv (𝒱 : Variants) (c : Dev nD) (bd : Option 𝒱.V) (i : grid0.Coords) (arg1 : Memref sig .tc .vmem S2x100x8x128 .fp8e4m3) (harg1 : arg1.IsWhole) (arg2 : Memref sig .tc .vmem S8x2x100 .f32) (harg2 : arg2.IsWhole) (arg3 : Memref sig .tc .vmem S1x128 .f32) (harg3 : arg3.IsWhole) (arg4 : Memref sig .tc .vmem S6x8x2x64x128 .bf16) (harg4 : arg4.IsWhole) (arg5 : Memref sig .tc .vmem S6x8x2x64x128 .bf16) (harg5 : arg5.IsWhole) (arg6 : Memref sig .tc .vmem S6x8x2x64x100 .f32) (harg6 : arg6.IsWhole) (arg7 : Memref sig .tc .vmem S6x8x2x64x100 .f32) (harg7 : arg7.IsWhole) (arg8 : Memref sig .tc .vmem S2x800x128 .f32) (harg8 : arg8.IsWhole) (arg9 : Memref sig .tc .vmem S256x256 .bf16) (harg9 : arg9.IsWhole) (arg10 : Memref sig .tc .vmem S768x256 .bf16) (harg10 : arg10.IsWhole) (arg0 : BitVec 32) (v17 : Vec F S1x128 .f32) (Xarg2 : BufTy.Contents (Elt F) arg2.view.ty) (Xarg4 : BufTy.Contents (Elt F) arg4.view.ty) (Xarg5 : BufTy.Contents (Elt F) arg5.view.ty) (Xarg8 : BufTy.Contents (Elt F) arg8.view.ty) (k : ℕ) (acc : Unit) : sProp 𝕄 :=
  iprop((arg2.view.loc (c : Thread nD τ) ↦[arg2.view.set]{fullShare} Xarg2) ∗ (arg4.view.loc (c : Thread nD τ) ↦[arg4.view.set]{fullShare} Xarg4) ∗ (arg5.view.loc (c : Thread nD τ) ↦[arg5.view.set]{fullShare} Xarg5) ∗ (arg8.view.loc (c : Thread nD τ) ↦[arg8.view.set]{fullShare} Xarg8) ∗ (∃ f, (arg6.view.loc (c : Thread nD τ) ↦[arg6.view.set]{fullShare} f) ∗ ⌜Upto (outOf 0 arg0 v17 (arg2.view.read (Elt F) Xarg2) (arg4.view.read (Elt F) Xarg4) (arg5.view.read (Elt F) Xarg5) (arg8.view.read (Elt F) Xarg8)) (arg6.view.read (Elt F) f) k⌝) ∗ (∃ f, (arg7.view.loc (c : Thread nD τ) ↦[arg7.view.set]{fullShare} f) ∗ ⌜Upto (outOf 1 arg0 v17 (arg2.view.read (Elt F) Xarg2) (arg4.view.read (Elt F) Xarg4) (arg5.view.read (Elt F) Xarg5) (arg8.view.read (Elt F) Xarg8)) (arg7.view.read (Elt F) f) k⌝) ∗ (∃ f, (arg9.view.loc (c : Thread nD τ) ↦[arg9.view.set]{fullShare} f) ∗ ⌜OffDiag (arg9.view.read (Elt F) f)⌝) ∗ (∃ f, (arg10.view.loc (c : Thread nD τ) ↦[arg10.view.set]{fullShare} f)))

set_option warn.classDefReducibility false in
/-- The loop by that invariant. -/
@[sl_loop] def loop (𝒱 : Variants) (c : Dev nD) (bd : Option 𝒱.V) (E : Set ℕ) (i : grid0.Coords) (arg1 : Memref sig .tc .vmem S2x100x8x128 .fp8e4m3) (harg1 : arg1.IsWhole) (arg2 : Memref sig .tc .vmem S8x2x100 .f32) (harg2 : arg2.IsWhole) (arg3 : Memref sig .tc .vmem S1x128 .f32) (harg3 : arg3.IsWhole) (arg4 : Memref sig .tc .vmem S6x8x2x64x128 .bf16) (harg4 : arg4.IsWhole) (arg5 : Memref sig .tc .vmem S6x8x2x64x128 .bf16) (harg5 : arg5.IsWhole) (arg6 : Memref sig .tc .vmem S6x8x2x64x100 .f32) (harg6 : arg6.IsWhole) (arg7 : Memref sig .tc .vmem S6x8x2x64x100 .f32) (harg7 : arg7.IsWhole) (arg8 : Memref sig .tc .vmem S2x800x128 .f32) (harg8 : arg8.IsWhole) (arg9 : Memref sig .tc .vmem S256x256 .bf16) (harg9 : arg9.IsWhole) (arg10 : Memref sig .tc .vmem S768x256 .bf16) (harg10 : arg10.IsWhole) (arg0 : BitVec 32) (v17 : Vec F S1x128 .f32) (Xarg2 : BufTy.Contents (Elt F) arg2.view.ty) (Xarg4 : BufTy.Contents (Elt F) arg4.view.ty) (Xarg5 : BufTy.Contents (Elt F) arg5.view.ty) (Xarg8 : BufTy.Contents (Elt F) arg8.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg0 v17 where
  inv := loopInv (F := F) 𝒱 c bd i arg1 harg1 arg2 harg2 arg3 harg3 arg4 harg4 arg5 harg5 arg6 harg6 arg7 harg7 arg8 harg8 arg9 harg9 arg10 harg10 arg0 v17 Xarg2 Xarg4 Xarg5 Xarg8
  step k acc := by
    iintro ⟨H2, H4, H5, H8, ⟨%f6, H6, %h6⟩, ⟨%f7, H7, %h7⟩, ⟨%f9, H9, %h9⟩, ⟨%f10, H10⟩⟩
    iapply (trip (F := F) 𝒱 c bd i arg1 harg1 arg2 harg2 arg3 harg3 arg4 harg4 arg5 harg5 arg6 harg6 arg7 harg7 arg8 harg8 arg9 harg9 arg10 harg10 arg0 v17 E k Xarg2 Xarg4 Xarg5 Xarg8 f6 f7 f9 f10 h6 h7 h9)
    isplitl [H2]; · iexact H2
    isplitl [H4]; · iexact H4
    isplitl [H5]; · iexact H5
    isplitl [H8]; · iexact H8
    isplitl [H6]; · iexact H6
    isplitl [H7]; · iexact H7
    isplitl [H9]; · iexact H9
    iexact H10

end Cert.Kernel.Hand

end
-- ==== Proof.Kernel.Body.lean ====
/- The kernel body at one grid point: what it leaves in the two output blocks, and that it leaves the right operand zero
   off its diagonal blocks. -/
module

public import proofs.«01_k».proof.Proof.Kernel.Loop
public import Idealize.ShloMosaic.Lib.Pipeline.FrameBody

@[expose] public section

set_option maxRecDepth 8192

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]
local notation "𝕄" => MT nD τ sig Unit (Elt F) ℕ (UR sig nD τ) ℕ

/-- The two stores to the table, last first. -/
def tabPieces (x : Vec F S2x100x8x128 .fp8e4m3) : List (View.Piece (Elt F) S2x800x128 .f32) :=
  [(⟨Rect.unit (s := S2x800x128) ![1, 0, 0] S1x800x128.size inb_S2x800x128_S1x800x128_1_0_0,
      k0_pay3 (View.ld x (Rect.unit (s := S2x100x8x128) ![1, 0, 0, 0] S1x100x8x128.size inb_S2x100x8x128_S1x100x8x128_1_0_0_0))⟩ : View.Piece (Elt F) S2x800x128 .f32),
   (⟨Rect.unit (s := S2x800x128) ![0, 0, 0] S1x800x128.size inb_S2x800x128_S1x800x128_0_0_0,
      k0_pay2 (View.ld x (Rect.unit (s := S2x100x8x128) ![0, 0, 0, 0] S1x100x8x128.size inb_S2x100x8x128_S1x100x8x128_0_0_0_0))⟩ : View.Piece (Elt F) S2x800x128 .f32)]

/-- The table of one grid point: the codes of its eight orders, one row per degree slot and order. -/
def tabOf (x : Vec F S2x100x8x128 .fp8e4m3) : Vec F S2x800x128 .f32 := View.canon (tabPieces x)

theorem cover_tab (x : Vec F S2x100x8x128 .fp8e4m3) (y : S2x800x128.Idx) : ∃ pc ∈ tabPieces x, y ∈ pc.1.set :=
  View.cover_of_tiled (s := S2x800x128) (tabPieces x) S1x800x128.size (by rfl) y

/-- A load of a whole buffer is the buffer. -/
theorem read_whole_w (v : View sig .tc .vmem S1x128 .f32) (f : BufTy.Contents (Elt F) v.ty) :
    v.readAt (Elt F) (Rect.unit (s := S1x128) ![0, 0] S1x128.size inb_S1x128_S1x128_0_0).toLoadRect f = v.read (Elt F) f := by
  funext j
  refine congrArg (v.read (Elt F) f) (funext fun d => Fin.ext ?_)
  refine (Rect.idx_unit_val _ _ inb_S1x128_S1x128_0_0 j d).trans ?_
  fin_cases d
  · exact Nat.zero_add _
  · exact Nat.zero_add _

/-- Zeros stored over the whole right operand. -/
theorem offDiag_zero (v : View sig .tc .vmem S256x256 .bf16) (f : BufTy.Contents (Elt F) v.ty) :
    OffDiag (v.read (Elt F) (v.writes (Elt F) f [(⟨Rect.unit (s := S256x256) ![0, 0] S256x256.size inb_S256x256_S256x256_0_0, k0_pay1⟩ : View.Piece (Elt F) S256x256 .bf16)])) := by
  intro j _
  rw [View.read_writes_cons_unit_of_mem v f inb_S256x256_S256x256_0_0 _ _ j j rfl (by
    intro a
    fin_cases a
    · exact (Nat.zero_add _).symm
    · exact (Nat.zero_add _).symm)]
  unfold k0_pay1
  rw [shapeCast_self]
  rfl

theorem upto_zero (G g : Vec F S6x8x2x64x100 .f32) : Upto G g 0 := fun _ h => absurd h (Nat.not_lt_zero _)

theorem upto_all {G g : Vec F S6x8x2x64x100 .f32} (h : Upto G g 8) : g = G := funext fun j => h j (j 1).isLt

theorem first_word (n : ℕ) (hn : n < 25) :
    Scalar.cmpi .ne (Scalar.extui (Scalar.cmpi .eq (BitVec.ofNat 32 n) 0#32)) 0#32 = 1#1 ↔ n = 0 := by
  have : ∀ n : Fin 25, Scalar.cmpi .ne (Scalar.extui (Scalar.cmpi .eq (BitVec.ofNat 32 n.val) 0#32)) 0#32 = 1#1 ↔ n.val = 0 := by decide +kernel
  exact this ⟨n, hn⟩

set_option maxHeartbeats 4000000 in
/-- The body at a grid point: the inputs' blocks as they were, the outputs' blocks computed from them, the right operand
    zero off its diagonal blocks — which, after the first grid point, it must be before. -/
theorem sound_kernel (c : Dev nD) (E : Set ℕ) (i : grid0.Coords) (arg1 : Memref sig .tc .vmem S2x100x8x128 .fp8e4m3) (harg1 : arg1.IsWhole) (arg2 : Memref sig .tc .vmem S8x2x100 .f32) (harg2 : arg2.IsWhole) (arg3 : Memref sig .tc .vmem S1x128 .f32) (harg3 : arg3.IsWhole) (arg4 : Memref sig .tc .vmem S6x8x2x64x128 .bf16) (harg4 : arg4.IsWhole) (arg5 : Memref sig .tc .vmem S6x8x2x64x128 .bf16) (harg5 : arg5.IsWhole) (arg6 : Memref sig .tc .vmem S6x8x2x64x100 .f32) (harg6 : arg6.IsWhole) (arg7 : Memref sig .tc .vmem S6x8x2x64x100 .f32) (harg7 : arg7.IsWhole) (arg8 : Memref sig .tc .vmem S2x800x128 .f32) (harg8 : arg8.IsWhole) (arg9 : Memref sig .tc .vmem S256x256 .bf16) (harg9 : arg9.IsWhole) (arg10 : Memref sig .tc .vmem S768x256 .bf16) (harg10 : arg10.IsWhole)
    (x1 : Vec F S2x100x8x128 .fp8e4m3) (x2 : Vec F S8x2x100 .f32) (x3 : Vec F S1x128 .f32) (x4 x5 : Vec F S6x8x2x64x128 .bf16) (K : PUnit → sProp 𝕄) :
    (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d)
        ∗ (∃ d, owns (c : Thread nD τ) arg9 fullShare d ∗ ⌜(i 0).val ≠ 0 → OffDiag d⌝)
        ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outOf 0 (BitVec.ofNat 32 (i 0).val) x3 x2 x4 x5 (tabOf x1))
            ∗ owns (c : Thread nD τ) arg7 fullShare (outOf 1 (BitVec.ofNat 32 (i 0).val) x3 x2 x4 x5 (tabOf x1))
            ∗ (∃ d, owns (c : Thread nD τ) arg8 fullShare d)
            ∗ (∃ d, owns (c : Thread nD τ) arg9 fullShare d ∗ ⌜OffDiag d⌝)
            ∗ (∃ d, owns (c : Thread nD τ) arg10 fullShare d)) -∗ K ⟨⟩)) : sProp 𝕄)
      ⊢ wp frame (wpE (defs₀ (F := F)) Variants.none c none) E (cc0_legendre i arg1 harg1 arg2 harg2 arg3 harg3 arg4 harg4 arg5 harg5 arg6 harg6 arg7 harg7 arg8 harg8 arg9 harg9 arg10 harg10) K := by
  simp only [cc0_legendre_eq_skeleton]; unfold cc0_legendre_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, ⟨%f9, %hf9, H9⟩, %h9⟩, ⟨%d10, %f10, -, H10⟩, Hk⟩
  subst hf1 hf2 hf3 hf4 hf5 hf9
  have hu6 : Upto (outOf 0 (BitVec.ofNat 32 (i 0).val) (arg3.view.readAt (Elt F) (Rect.unit (s := S1x128) ![0, 0] S1x128.size inb_S1x128_S1x128_0_0).toLoadRect f3)
      (arg2.view.read (Elt F) f2) (arg4.view.read (Elt F) f4) (arg5.view.read (Elt F) f5)
      (arg8.view.read (Elt F) (arg8.view.writes (Elt F) arg8.view.junk (tabPieces (arg1.view.read (Elt F) f1))))) (arg6.view.read (Elt F) f6) 0 := upto_zero _ _
  have hu7 : Upto (outOf 1 (BitVec.ofNat 32 (i 0).val) (arg3.view.readAt (Elt F) (Rect.unit (s := S1x128) ![0, 0] S1x128.size inb_S1x128_S1x128_0_0).toLoadRect f3)
      (arg2.view.read (Elt F) f2) (arg4.view.read (Elt F) f4) (arg5.view.read (Elt F) f5)
      (arg8.view.read (Elt F) (arg8.view.writes (Elt F) arg8.view.junk (tabPieces (arg1.view.read (Elt F) f1))))) (arg7.view.read (Elt F) f7) 0 := upto_zero _ _
  have fin : ∀ (q : Fin 2) (g : Vec F S6x8x2x64x100 .f32),
      Upto (outOf q (BitVec.ofNat 32 (i 0).val) (arg3.view.readAt (Elt F) (Rect.unit (s := S1x128) ![0, 0] S1x128.size inb_S1x128_S1x128_0_0).toLoadRect f3)
        (arg2.view.read (Elt F) f2) (arg4.view.read (Elt F) f4) (arg5.view.read (Elt F) f5)
        (arg8.view.read (Elt F) (arg8.view.writes (Elt F) arg8.view.junk (tabPieces (arg1.view.read (Elt F) f1))))) g 8 →
      g = outOf q (BitVec.ofNat 32 (i 0).val) (arg3.view.read (Elt F) f3) (arg2.view.read (Elt F) f2) (arg4.view.read (Elt F) f4)
        (arg5.view.read (Elt F) f5) (tabOf (arg1.view.read (Elt F) f1)) := by
    intro q g h
    rw [upto_all h, read_whole_w, View.read_writes_eq_canon _ _ _ (cover_tab _)]
    rfl
  by_cases h0 : (i 0).val = 0
  · have hc := (first_word (i 0).val (i 0).isLt).mpr h0
    have hz := offDiag_zero (F := F) arg9.view arg9.view.junk
    sl_exec (disch := sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro; exact fin 0 _ hL5
    isplitl [H7]
    · iexists _; isplitr
      swap; · iexact H7
      ipureintro; exact fin 1 _ hL7
    isplitl [H8]
    · iexists _, _; isplitr
      swap; · iexact H8
      ipureintro; rfl
    isplitl [H9]
    · iexists _; isplitl [H9]
      · iexists _; isplitr
        swap; · iexact H9
        ipureintro; rfl
      ipureintro; exact hL9
    iexists _, _; isplitr
    swap; · iexact H10
    ipureintro; rfl
  · have hc := fun h => h0 ((first_word (i 0).val (i 0).isLt).mp h)
    have hz := h9 h0
    sl_exec (disch := sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro; exact fin 0 _ hL5
    isplitl [H7]
    · iexists _; isplitr
      swap; · iexact H7
      ipureintro; exact fin 1 _ hL7
    isplitl [H8]
    · iexists _, _; isplitr
      swap; · iexact H8
      ipureintro; rfl
    isplitl [H9]
    · iexists _; isplitl [H9]
      · iexists _; isplitr
        swap; · iexact H9
        ipureintro; rfl
      ipureintro; exact hL9
    iexists _, _; isplitr
    swap; · iexact H10
    ipureintro; rfl

end Cert.Kernel.Hand

end
-- ==== Proof.Kernel.Run.lean ====
/- The kernel's run: what the pipeline is handed at every grid point, the right operand's zeros carried from point to
   point, the launch, and the frame. -/
module

public import proofs.«01_k».proof.Proof.Kernel.Body
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord0 (t : Fin cfg0.N) : (grid0.coords t 0).val = t.val :=
  (by decide +kernel : ∀ t : Fin 25, (grid0.coords t 0).val = t.val) t

/-- What output `q`'s block holds after the body at point `t`: computed from the inputs' blocks there. -/
def outBlk (q : Fin 2) (c : Dev nD) (t : Fin cfg0.N) : Vec F S6x8x2x64x100 .f32 :=
  outOf q (BitVec.ofNat 32 (grid0.coords t 0).val) (iblk m c 2 t) (iblk m c 1 t) (iblk m c 3 t) (iblk m c 4 t) (tabOf (iblk m c 0 t))

/-- What the body finds of its own buffers before point `n`: anything, but the right operand zero off its diagonal blocks
    after the first point. -/
def Φ (c : Dev nD) (n : ℕ) : sProp 𝕄 :=
  iprop(((∃ f, owns (c : Thread nD τ) (Memref.whole cc0_scratch0) fullShare f)
    ∗ (∃ f, owns (c : Thread nD τ) (Memref.whole cc0_scratch1) fullShare f ∗ ⌜n ≠ 0 → OffDiag f⌝)
    ∗ (∃ f, owns (c : Thread nD τ) (Memref.whole cc0_scratch2) fullShare f)) ∗ ∃ r, prngReg c r)

/-- The pipeline's proof data: the arrays as the region finds them, and after the body each input's block unchanged and each
    output's block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m 0 c t
    | ⟨6, _⟩ => outBlk m 1 c t
  Φ t := Φ c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m 0 c t := by dsimp only [dats]
theorem after0_6 (c : Dev nD) (t : Fin cfg0.N) : (dats m 0 c).after 6 t = outBlk m 1 c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the pipeline hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Φ c (t.val + 1) from rfl, show (dats m 0 c).Φ t.castSucc = Φ c t.val from rfl,
    show (dats m 0 c).owesAt () t.succ = (dats m 0 c).owesAt () t.castSucc from rfl,
    after0_0, after0_1, after0_2, after0_3, after0_4, after0_5, after0_6]
  unfold Φ outBlk
  iintro ⟨⟨⟨H8, ⟨%d9, H9, %h9⟩, H10⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H8]; · iexact H8
  isplitl [H9]
  · iexists d9; isplitl [H9]; · iexact H9
    ipureintro; exact fun h => h9 (fun e => h ((coord0 t).trans e))
  isplitl [H10]; · iexact H10
  iintro ⟨H0, H1, H2, H3, H4, H5, H6, H8, ⟨%e9, H9, %g9⟩, H10⟩
  isplitl [H8 H9 H10 Hr]
  · isplitl [H8 H9 H10]
    · isplitl [H8]; · iexact H8
      isplitl [H9]
      · iexists e9; isplitl [H9]; · iexact H9
        ipureintro; exact fun _ => g9
      iexact H10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is known of the body's own buffers. -/
theorem Φ_in (c : Dev nD) : Pipeline.ΦA spec0 c ⊢ (dats m 0 c).Φ 0 := by
  rw [show (dats m 0 c).Φ 0 = Φ c 0 from rfl]
  unfold Pipeline.ΦA Φ
  rw [scopedRest0_eq]
  simp only [owns_whole]
  iintro ⟨⟨H8, ⟨%f9, H9⟩, H10⟩, Hr⟩
  isplitl [H8 H9 H10]
  · isplitl [H8]; · iexact H8
    isplitl [H9]
    · iexists f9; isplitl [H9]; · iexact H9
      ipureintro; exact fun h => absurd rfl h
    iexact H10
  iexact Hr

/-- After the last point what is known is dropped. -/
theorem Φ_out (c : Dev nD) : (dats m 0 c).Φ (Fin.last cfg0.N) ⊢ Pipeline.ΦA spec0 c := by
  rw [show (dats m 0 c).Φ (Fin.last cfg0.N) = Φ c cfg0.N from rfl]
  unfold Pipeline.ΦA Φ
  rw [scopedRest0_eq]
  simp only [owns_whole]
  iintro ⟨⟨H8, ⟨%f9, H9, %h9⟩, H10⟩, Hr⟩
  isplitl [H8 H9 H10]
  · isplitl [H8]; · iexact H8
    isplitl [H9]
    · iexists f9; iexact H9
    iexact H10
  iexact Hr

set_option backward.isDefEq.respectTransparency.types false in
set_option maxHeartbeats 800000 in
/-- The launch: every execution terminates with the arrays at what the proof data computes and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Φ_in m) (hout := Φ_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  frame_of m ρ (dats m) (A_eq m) (run_main m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) ∧ r.2.sem = fun _ => 0) :=
  θ_run_and (unchanged m ρ) ((θ_run defs _ _).mono (fun _ h => h.2) (run_main_quiescent m ρ))

end Cert.Kernel.Hand

end
-- ==== Proof.KernelIdeal.Block.lean ====
/- What one grid point of the kernel computes, as pure functions of the blocks it is given, and the facts about the
   pieces it stores: which element each piece holds. Stated for any element operations `F`. -/
module

public import proofs.«01_k».proof.Proof.Gen.KernelIdeal.Skeleton
public import Idealize.ShloMosaic.Lib.WritesUnit
public import Idealize.ShloMosaic.Lib.ValueIdxCore
public import Idealize.ShloMosaic.Lib.Pipeline.Value
public import Idealize.ShloMosaic.Lib.Pipeline.ValueKit.Tiles

@[expose] public section

set_option maxRecDepth 8192

noncomputable section

namespace Cert.KernelIdeal.Hand

open Idealize.ShloMosaic Idealize.ShloMosaic.TcCoe Idealize.ShloMosaic.ValueIdx
open Cert.KernelIdeal.Gen

variable {F : FTy → Type} [FloatOps F]

/-! ## The pure functions -/

/-- The north (`h = 0`) or south (`h = 1`) half of batch entry `b`, order `m`, as a 64 × 128 matrix. -/
def slab (x : Vec F S6x8x2x64x128 .bf16) (b : Fin 6) (m : Fin 8) (h : Fin 2) : FVec F S64x128 .bf16 :=
  fun j => x (ix5 b m h (j 0) (j 1))

/-- North plus south, weighted. -/
def evenV (w : FVec F S1x128 .f32) (a c : FVec F S64x128 .bf16) : FVec F S64x128 .bf16 :=
  truncf .bf16 (mulf (addf (extf .f32 a bitsLt_bf16_f32) (extf .f32 c bitsLt_bf16_f32)) (broadcastTo S64x128 w broadcasts_S1x128_S64x128)) bitsLt_bf16_f32

/-- North minus south, weighted. -/
def oddV (w : FVec F S1x128 .f32) (a c : FVec F S64x128 .bf16) : FVec F S64x128 .bf16 :=
  truncf .bf16 (mulf (subf (extf .f32 a bitsLt_bf16_f32) (extf .f32 c bitsLt_bf16_f32)) (broadcastTo S64x128 w broadcasts_S1x128_S64x128)) bitsLt_bf16_f32

/-- Row of the left operand holding part `i` (real, imaginary), batch entry `b`, channel `d`. -/
def rowIx (i : Fin 2) (b : Fin 6) (d : Fin 64) : Fin 768 := ⟨(6 * i.val + b.val) * 64 + d.val, by omega⟩

/-- Column of the product holding parity `p`, degree slot `k`. -/
def colIx (p : Fin 2) (k : Fin 100) : Fin 256 := ⟨p.val * 128 + k.val, by omega⟩

/-- The left operand of the product at order `m`: even halves in columns 0 to 127, odd halves in columns 128 to 255. -/
def lhsOf (w : FVec F S1x128 .f32) (xr xi : Vec F S6x8x2x64x128 .bf16) (m : Fin 8) : Vec F S768x256 .bf16 := fun j =>
  have h0 : (j 0).val < 768 := idx2_lt0 j
  have h1 : (j 1).val < 256 := idx2_lt1 j
  let x := if (j 0).val < 384 then xr else xi
  let b : Fin 6 := ⟨(j 0).val / 64 % 6, Nat.mod_lt _ (by decide)⟩
  let d : Fin 64 := ⟨(j 0).val % 64, Nat.mod_lt _ (by decide)⟩
  let t : Fin 128 := ⟨(j 1).val % 128, Nat.mod_lt _ (by decide)⟩
  if (j 1).val < 128 then evenV w (slab x b m 0) (slab x b m 1) (ix2 d t) else oddV w (slab x b m 0) (slab x b m 1) (ix2 d t)

/-- Whether an index of the right operand lies in one of its two diagonal blocks. -/
def inDiag (j : S256x256.Idx) : Prop :=
  ((j 0).val < 100 ∧ (j 1).val < 128) ∨ (128 ≤ (j 0).val ∧ (j 0).val < 228 ∧ 128 ≤ (j 1).val)

/-- Every element outside the two diagonal blocks is zero. -/
def OffDiag (g : Vec F S256x256 .bf16) : Prop := ∀ j : S256x256.Idx, ¬ inDiag j → g j = Scalar.ofBits .bf16 0x0000#16

/-- The right operand at order `m` of the table `x` (row `8 k + m` of parity `p`): two diagonal blocks, zero elsewhere. -/
def rhsOf (x : Vec F S2x800x128 .f32) (m : Fin 8) : Vec F S256x256 .bf16 := fun j =>
  if h : (j 0).val < 100 ∧ (j 1).val < 128 then
    FloatOps.truncf .bf16 bitsLt_bf16_f32 (x (ix3 (0 : Fin 2) ⟨8 * (j 0).val + m.val, by omega⟩ ⟨(j 1).val, h.2⟩))
  else if h : 128 ≤ (j 0).val ∧ (j 0).val < 228 ∧ 128 ≤ (j 1).val then
    FloatOps.truncf .bf16 bitsLt_bf16_f32 (x (ix3 (1 : Fin 2) ⟨8 * ((j 0).val - 128) + m.val, by omega⟩ ⟨(j 1).val - 128, by have := idx2_lt1 j; omega⟩))
  else Scalar.ofBits .bf16 0x0000#16

/-- The scale row with the entries outside the truncation replaced by zero. -/
def sclOf (s m : BitVec 32) (p : BitVec 32) (row : FVec F S1x100 .f32) : FVec F S1x100 .f32 :=
  select (cmpi .sle (addi (addi (broadcast S1x100 (Scalar.addi (Scalar.muli s 8#32) m))
      (muli (broadcast S1x100 2#32) (iota .tc S1x100 32 [1] iota_S1x100_d1_w32))) (broadcast S1x100 p)) (broadcast S1x100 199#32))
    row (broadcast S1x100 (Scalar.ofBits .f32 0x00000000#32))

/-- Row `(m, p)` of the scale block. -/
def srow (x : Vec F S8x2x100 .f32) (m : Fin 8) (p : Fin 2) : FVec F S1x100 .f32 := fun j => x (ix3 m p (j 1))

/-- The product at order `m`. -/
def prodOf (w : FVec F S1x128 .f32) (xr xi : Vec F S6x8x2x64x128 .bf16) (tab : Vec F S2x800x128 .f32) (m : Fin 8) : FVec F S768x256 .f32 :=
  k0_pay62 (lhsOf w xr xi m) (rhsOf tab m)

/-- One output block: part `i` of the product at every order, scaled. -/
def outOf (i : Fin 2) (s : BitVec 32) (w : FVec F S1x128 .f32) (xs : Vec F S8x2x100 .f32) (xr xi : Vec F S6x8x2x64x128 .bf16)
    (tab : Vec F S2x800x128 .f32) : Vec F S6x8x2x64x100 .f32 := fun j =>
  FloatOps.mulf (prodOf w xr xi tab (j 1) (ix2 (rowIx i (j 0) (j 3)) (colIx (j 2) (j 4))))
    (sclOf s (Scf.iv 0#32 1#32 (j 1 : Fin 8).val) (BitVec.ofNat 32 (j 2 : Fin 2).val) (srow xs (j 1) (j 2)) (ix2 (0 : Fin 1) (j 4)))

/-- The output block is right at every order below `k`. -/
def Upto (G g : Vec F S6x8x2x64x100 .f32) (k : ℕ) : Prop := ∀ j : S6x8x2x64x100.Idx, (j 1).val < k → g j = G j

/-! ## Reads of the blocks -/

theorem slab_eq (x : Vec F S6x8x2x64x128 .bf16) {off : Fin 5 → ℕ} (inb : ∀ a, off a + S1x1x1x64x128.size a ≤ S6x8x2x64x128.size a)
    (b : Fin 6) (m : Fin 8) (h : Fin 2) (ho : off = ![b.val, m.val, h.val, 0, 0]) :
    shapeCast S64x128 (fun j : S1x1x1x64x128.Idx => x ((Rect.unit (s := S6x8x2x64x128) off S1x1x1x64x128.size inb).idx j)) shapeCasts_S1x1x1x64x128_S64x128
      = slab x b m h := by
  subst ho
  funext j
  refine (shapeCast_apply _ _ _ (ix5 (0 : Fin 1) (0 : Fin 1) (0 : Fin 1) (j 0 : Fin 64) (j 1 : Fin 128)) (by rw [Shape.rowMajor_val_two, Shape.rowMajor_val_five]; simp)).trans ?_
  unfold slab
  refine congrArg x (funext fun a => Fin.ext ?_)
  refine (Rect.idx_unit_val _ _ inb _ a).trans ?_
  fin_cases a
  · rfl
  · rfl
  · rfl
  · exact Nat.zero_add _
  · exact Nat.zero_add _

theorem srow_eq (x : Vec F S8x2x100 .f32) {off : Fin 3 → ℕ} (inb : ∀ a, off a + S1x1x100.size a ≤ S8x2x100.size a)
    (m : Fin 8) (p : Fin 2) (ho : off = ![m.val, p.val, 0]) :
    shapeCast S1x100 (fun j : S1x1x100.Idx => x ((Rect.unit (s := S8x2x100) off S1x1x100.size inb).idx j)) shapeCasts_S1x1x100_S1x100
      = srow x m p := by
  subst ho
  funext j
  refine (shapeCast_apply _ _ _ (ix3 (0 : Fin 1) (0 : Fin 1) (j 1 : Fin 100)) (by
    have h0 : (j 0).val < 1 := idx2_lt0 j
    rw [Shape.rowMajor_val_three, Shape.rowMajor_val_two]; simp; omega)).trans ?_
  unfold srow
  refine congrArg x (funext fun a => Fin.ext ?_)
  refine (Rect.idx_unit_val _ _ inb _ a).trans ?_
  fin_cases a
  · rfl
  · rfl
  · exact Nat.zero_add _

/-! ## The pieces stored to the outputs -/

/-- The payload of one output store: a 64 × 100 box of the product, scaled. -/
def outPiece (off : Fin 2 → ℕ) (h : S768x256.Slices off S64x100) (y : FVec F S768x256 .f32) (s : FVec F S1x100 .f32) : FVec F S1x1x1x64x100 .f32 :=
  shapeCast S1x1x1x64x100 (mulf (extractStridedSlice S64x100 off y h) (broadcastTo S64x100 s broadcasts_S1x100_S64x100)) shapeCasts_S64x100_S1x1x1x64x100

theorem outPiece_apply {off : Fin 2 → ℕ} (h : S768x256.Slices off S64x100) (y : FVec F S768x256 .f32) (s : FVec F S1x100 .f32)
    (i : Fin 2) (b : Fin 6) (p : Fin 2) (ho : off = ![(6 * i.val + b.val) * 64, p.val * 128]) (x : S1x1x1x64x100.Idx) :
    outPiece off h y s x = FloatOps.mulf (y (ix2 (rowIx i b (x 3)) (colIx p (x 4)))) (s (ix2 (0 : Fin 1) (x 4 : Fin 100))) := by
  subst ho
  unfold outPiece
  refine (shapeCast_apply _ _ _ (ix2 (x 3 : Fin 64) (x 4 : Fin 100)) (by
    have h0 : (x 0).val < 1 := (x 0).isLt
    have h1 : (x 1).val < 1 := (x 1).isLt
    have h2 : (x 2).val < 1 := (x 2).isLt
    rw [Shape.rowMajor_val_two, Shape.rowMajor_val_five]; simp; omega)).trans ?_
  show FloatOps.mulf (extractStridedSlice S64x100 _ y h _) (broadcastTo S64x100 s _ _) = _
  exact congrArg₂ FloatOps.mulf
    (extractStridedSlice_apply _ _ _ _ (ix2 (rowIx i b (x 3)) (colIx p (x 4))) (by intro a; fin_cases a <;> rfl))
    (broadcastTo_apply _ _ _ (ix2 (0 : Fin 1) (x 4 : Fin 100)) (by intro a; fin_cases a <;> rfl))

section Out
variable {κ : Kind} {sp : Space} (v : View sig κ sp S6x8x2x64x100 .f32) (f : BufTy.Contents (Elt F) v.ty)

/-- One output store read back: the stored plane has the block's value, every other element what was there. -/
theorem read_out_cons (i : Fin 2) (s : BitVec 32) (w : FVec F S1x128 .f32) (xs : Vec F S8x2x100 .f32) (xr xi : Vec F S6x8x2x64x128 .bf16)
    (tab : Vec F S2x800x128 .f32) (m : Fin 8) (b : Fin 6) (p : Fin 2) {off : Fin 5 → ℕ} (ho : off = ![b.val, m.val, p.val, 0, 0])
    (inb : ∀ a, off a + S1x1x1x64x100.size a ≤ S6x8x2x64x100.size a) {off2 : Fin 2 → ℕ} (h2 : S768x256.Slices off2 S64x100)
    (ho2 : off2 = ![(6 * i.val + b.val) * 64, p.val * 128]) (y : FVec F S768x256 .f32) (hy : y = prodOf w xr xi tab m)
    (sc : FVec F S1x100 .f32) (hs : sc = sclOf s (Scf.iv 0#32 1#32 m.val) (BitVec.ofNat 32 p.val) (srow xs m p))
    (L : List (View.Piece (Elt F) S6x8x2x64x100 .f32)) (j : S6x8x2x64x100.Idx) :
    v.read (Elt F) (v.writes (Elt F) f ((⟨Rect.unit off S1x1x1x64x100.size inb, outPiece off2 h2 y sc⟩ : View.Piece (Elt F) S6x8x2x64x100 .f32) :: L)) j
      = if (j 0).val = b.val ∧ (j 1).val = m.val ∧ (j 2).val = p.val then outOf i s w xs xr xi tab j
        else v.read (Elt F) (v.writes (Elt F) f L) j := by
  by_cases h : (j 0).val = b.val ∧ (j 1).val = m.val ∧ (j 2).val = p.val
  · obtain ⟨e0, e1, e2⟩ := h
    rw [if_pos ⟨e0, e1, e2⟩]
    rw [View.read_writes_cons_unit_of_mem v f inb _ L j (ix5 (0 : Fin 1) (0 : Fin 1) (0 : Fin 1) (j 3 : Fin 64) (j 4 : Fin 100)) ho (by
      intro a
      fin_cases a
      · exact e0
      · exact e1
      · exact e2
      · exact (Nat.zero_add _).symm
      · exact (Nat.zero_add _).symm)]
    rw [outPiece_apply h2 y sc i b p ho2]
    have e0' : (j 0 : Fin 6) = b := Fin.ext e0
    have e1' : (j 1 : Fin 8) = m := Fin.ext e1
    have e2' : (j 2 : Fin 2) = p := Fin.ext e2
    subst hy hs
    unfold outOf
    subst e0' e1' e2'
    rfl
  · rw [if_neg h]
    have : (j 0).val ≠ b.val ∨ (j 1).val ≠ m.val ∨ (j 2).val ≠ p.val := by omega
    rcases this with h | h | h
    · exact View.read_writes_cons_unit_of_not_mem v f inb _ L j ho 0 (by show (j 0).val < b.val ∨ b.val + 1 ≤ (j 0).val; omega)
    · exact View.read_writes_cons_unit_of_not_mem v f inb _ L j ho 1 (by show (j 1).val < m.val ∨ m.val + 1 ≤ (j 1).val; omega)
    · exact View.read_writes_cons_unit_of_not_mem v f inb _ L j ho 2 (by show (j 2).val < p.val ∨ p.val + 1 ≤ (j 2).val; omega)

end Out

/-! ## The pieces stored to the right operand -/

section Rhs
variable {κ : Kind} {sp : Space} (v : View sig κ sp S256x256 .bf16) (f : BufTy.Contents (Elt F) v.ty)

/-- The two diagonal blocks stored over a right operand that is zero off them: it is the right operand of this order. -/
theorem read_rhs (tab : Vec F S2x800x128 .f32) (m : Fin 8) (w0 w1 : FVec F S100x128 .bf16)
    (hw0 : ∀ (a : Fin 100) (b : Fin 128), w0 (ix2 a b) = FloatOps.truncf .bf16 bitsLt_bf16_f32 (tab (ix3 (0 : Fin 2) ⟨8 * a.val + m.val, by omega⟩ b)))
    (hw1 : ∀ (a : Fin 100) (b : Fin 128), w1 (ix2 a b) = FloatOps.truncf .bf16 bitsLt_bf16_f32 (tab (ix3 (1 : Fin 2) ⟨8 * a.val + m.val, by omega⟩ b)))
    (hf : OffDiag (v.read (Elt F) f)) (inb1 : ∀ a, (![128, 128] : Fin 2 → ℕ) a + S100x128.size a ≤ S256x256.size a)
    (inb0 : ∀ a, (![0, 0] : Fin 2 → ℕ) a + S100x128.size a ≤ S256x256.size a) :
    v.read (Elt F) (v.writes (Elt F) f [(⟨Rect.unit ![128, 128] S100x128.size inb1, w1⟩ : View.Piece (Elt F) S256x256 .bf16), ⟨Rect.unit ![0, 0] S100x128.size inb0, w0⟩])
      = rhsOf tab m := by
  funext j
  have l0 : (j 0).val < 256 := idx2_lt0 j
  have l1 : (j 1).val < 256 := idx2_lt1 j
  unfold rhsOf
  by_cases h1 : 128 ≤ (j 0).val ∧ (j 0).val < 228 ∧ 128 ≤ (j 1).val
  · rw [dif_neg (by omega), dif_pos h1]
    rw [View.read_writes_cons_unit_of_mem v f inb1 _ _ j (ix2 (⟨(j 0).val - 128, by omega⟩ : Fin 100) (⟨(j 1).val - 128, by omega⟩ : Fin 128)) rfl (by
      intro a
      fin_cases a
      · show (j 0).val = 128 + ((j 0).val - 128); omega
      · show (j 1).val = 128 + ((j 1).val - 128); omega)]
    exact hw1 _ _
  · have e : v.read (Elt F) (v.writes (Elt F) f [(⟨Rect.unit ![128, 128] S100x128.size inb1, w1⟩ : View.Piece (Elt F) S256x256 .bf16), ⟨Rect.unit ![0, 0] S100x128.size inb0, w0⟩]) j
        = v.read (Elt F) (v.writes (Elt F) f [(⟨Rect.unit ![0, 0] S100x128.size inb0, w0⟩ : View.Piece (Elt F) S256x256 .bf16)]) j := by
      have : (j 0).val < 128 ∨ 228 ≤ (j 0).val ∨ (j 1).val < 128 := by omega
      rcases this with h | h | h
      · exact View.read_writes_cons_unit_of_not_mem v f inb1 _ _ j rfl 0 (Or.inl h)
      · exact View.read_writes_cons_unit_of_not_mem v f inb1 _ _ j rfl 0 (Or.inr h)
      · exact View.read_writes_cons_unit_of_not_mem v f inb1 _ _ j rfl 1 (Or.inl h)
    rw [e]
    by_cases h0 : (j 0).val < 100 ∧ (j 1).val < 128
    · rw [dif_pos h0]
      rw [View.read_writes_cons_unit_of_mem v f inb0 _ _ j (ix2 (⟨(j 0).val, h0.1⟩ : Fin 100) (⟨(j 1).val, h0.2⟩ : Fin 128)) rfl (by
        intro a
        fin_cases a
        · exact (Nat.zero_add _).symm
        · exact (Nat.zero_add _).symm)]
      exact hw0 _ _
    · rw [dif_neg h0, dif_neg h1]
      have e2 : v.read (Elt F) (v.writes (Elt F) f [(⟨Rect.unit ![0, 0] S100x128.size inb0, w0⟩ : View.Piece (Elt F) S256x256 .bf16)]) j = v.read (Elt F) f j := by
        have : 100 ≤ (j 0).val ∨ 128 ≤ (j 1).val := by omega
        rcases this with h | h
        · exact View.read_writes_cons_unit_of_not_mem v f inb0 _ _ j rfl 0 (Or.inr (by show 0 + 100 ≤ (j 0).val; omega))
        · exact View.read_writes_cons_unit_of_not_mem v f inb0 _ _ j rfl 1 (Or.inr (by show 0 + 128 ≤ (j 1).val; omega))
      rw [e2]
      exact hf j (by unfold inDiag; omega)

end Rhs

theorem offDiag_rhsOf (tab : Vec F S2x800x128 .f32) (m : Fin 8) : OffDiag (rhsOf tab m) := by
  intro j hj
  unfold inDiag at hj
  unfold rhsOf
  rw [dif_neg (by omega), dif_neg (by omega)]

/-! ## The pieces stored to the left operand -/

/-- The payload of an even store. -/
def evenPiece (w : FVec F S1x128 .f32) (u c : FVec F S1x1x1x64x128 .bf16) : FVec F S64x128 .bf16 :=
  shapeCast S64x128 (evenV (shapeCast S1x128 w shapeCasts_S1x128_S1x128) (shapeCast S64x128 u shapeCasts_S1x1x1x64x128_S64x128) (shapeCast S64x128 c shapeCasts_S1x1x1x64x128_S64x128)) shapeCasts_S64x128_S64x128

/-- The payload of an odd store. -/
def oddPiece (w : FVec F S1x128 .f32) (u c : FVec F S1x1x1x64x128 .bf16) : FVec F S64x128 .bf16 :=
  shapeCast S64x128 (oddV (shapeCast S1x128 w shapeCasts_S1x128_S1x128) (shapeCast S64x128 u shapeCasts_S1x1x1x64x128_S64x128) (shapeCast S64x128 c shapeCasts_S1x1x1x64x128_S64x128)) shapeCasts_S64x128_S64x128

/-- Half `h` of batch entry `b` at order `m`, as the kernel loads it. -/
def ldSlab (x : Vec F S6x8x2x64x128 .bf16) (off : Fin 5 → ℕ) (inb : ∀ a, off a + S1x1x1x64x128.size a ≤ S6x8x2x64x128.size a) : FVec F S1x1x1x64x128 .bf16 :=
  fun j => x ((Rect.unit (s := S6x8x2x64x128) off S1x1x1x64x128.size inb).idx j)

theorem tile_even (w : FVec F S1x128 .f32) (xr xi x : Vec F S6x8x2x64x128 .bf16) (m : Fin 8) (i : Fin 2) (b : Fin 6)
    (hx : x = if i.val = 0 then xr else xi) {offa offb : Fin 5 → ℕ}
    (ha : ∀ a, offa a + S1x1x1x64x128.size a ≤ S6x8x2x64x128.size a) (hb : ∀ a, offb a + S1x1x1x64x128.size a ≤ S6x8x2x64x128.size a)
    (ea : offa = ![b.val, m.val, 0, 0, 0]) (eb : offb = ![b.val, m.val, 1, 0, 0]) {r : ℕ} (hr : r = (6 * i.val + b.val) * 64) (y : S768x256.Idx) :
    View.TileAt (Val := Elt F) (S := S768x256) (e := .bf16) y ![r, 0] S64x128.size (evenPiece w (ldSlab x offa ha) (ldSlab x offb hb)) (lhsOf w xr xi m y) := by
  intro z hz
  have h0 : (y 0).val = r + (z 0).val := hz 0
  have h1 : (y 1).val = 0 + (z 1).val := hz 1
  have l0 : (z 0).val < 64 := (z 0).isLt
  have l1 : (z 1).val < 128 := (z 1).isLt
  unfold evenPiece ldSlab
  rw [shapeCast_self, shapeCast_self, slab_eq x ha b m 0 ea, slab_eq x hb b m 1 eb]
  unfold lhsOf
  rw [if_pos (by omega)]
  have eX : (if (y 0).val < 384 then xr else xi) = x := by
    rw [hx]; congr 1; apply propext; omega
  rw [eX]
  have eB : (⟨(y 0).val / 64 % 6, Nat.mod_lt _ (by decide)⟩ : Fin 6) = b := Fin.ext (by show (y 0).val / 64 % 6 = b.val; omega)
  rw [eB]
  refine congrArg (evenV w (slab x b m 0) (slab x b m 1)) ?_
  refine funext fun a => Fin.ext ?_
  fin_cases a
  · show (z 0).val = (y 0).val % 64; omega
  · show (z 1).val = (y 1).val % 128; omega

theorem tile_odd (w : FVec F S1x128 .f32) (xr xi x : Vec F S6x8x2x64x128 .bf16) (m : Fin 8) (i : Fin 2) (b : Fin 6)
    (hx : x = if i.val = 0 then xr else xi) {offa offb : Fin 5 → ℕ}
    (ha : ∀ a, offa a + S1x1x1x64x128.size a ≤ S6x8x2x64x128.size a) (hb : ∀ a, offb a + S1x1x1x64x128.size a ≤ S6x8x2x64x128.size a)
    (ea : offa = ![b.val, m.val, 0, 0, 0]) (eb : offb = ![b.val, m.val, 1, 0, 0]) {r : ℕ} (hr : r = (6 * i.val + b.val) * 64) (y : S768x256.Idx) :
    View.TileAt (Val := Elt F) (S := S768x256) (e := .bf16) y ![r, 128] S64x128.size (oddPiece w (ldSlab x offa ha) (ldSlab x offb hb)) (lhsOf w xr xi m y) := by
  intro z hz
  have h0 : (y 0).val = r + (z 0).val := hz 0
  have h1 : (y 1).val = 128 + (z 1).val := hz 1
  have l0 : (z 0).val < 64 := (z 0).isLt
  have l1 : (z 1).val < 128 := (z 1).isLt
  unfold oddPiece ldSlab
  rw [shapeCast_self, shapeCast_self, slab_eq x ha b m 0 ea, slab_eq x hb b m 1 eb]
  unfold lhsOf
  rw [if_neg (by omega)]
  have eX : (if (y 0).val < 384 then xr else xi) = x := by
    rw [hx]; congr 1; apply propext; omega
  rw [eX]
  have eB : (⟨(y 0).val / 64 % 6, Nat.mod_lt _ (by decide)⟩ : Fin 6) = b := Fin.ext (by show (y 0).val / 64 % 6 = b.val; omega)
  rw [eB]
  refine congrArg (oddV w (slab x b m 0) (slab x b m 1)) ?_
  refine funext fun a => Fin.ext ?_
  fin_cases a
  · show (z 0).val = (y 0).val % 64; omega
  · show (z 1).val = (y 1).val % 128; omega

end Cert.KernelIdeal.Hand

end
-- ==== Proof.KernelIdeal.Loop.lean ====
/- The loop over the eight orders of one grid point: what one trip leaves, and the invariant the loop is run by. -/
module

public import proofs.«01_k».proof.Proof.KernelIdeal.Block
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄" => MT nD τ sig Unit (Elt F) ℕ (UR sig nD τ) ℕ

/-- The order a trip works on, as an index below eight. -/
def ordIx (k : Fin k0_t1_loop.trips) : Fin 8 := ⟨k.val, Nat.lt_of_lt_of_le k.isLt k0_t1_abs.2.1⟩

/-! ## What one trip stores -/

theorem ite_stop {α : Type} {p : Prop} [Decidable p] {a b g : α} (ha : a = g) (hb : ¬ p → b = g) : (if p then a else b) = g := by
  by_cases h : p
  · rw [if_pos h]; exact ha
  · rw [if_neg h]; exact hb h

/-- The strided load of the table: row `8 a + m` of parity `p`. -/
theorem read_table (M : Memref sig .tc .vmem S2x800x128 .f32) (X : BufTy.Contents (Elt F) M.view.ty) (m : Fin 8) (p : Fin 2)
    {off3 : Fin 3 → ℕ} (h3 : ∀ a, off3 a + S1x800x128.size a ≤ S2x800x128.size a) (e3 : off3 = ![p.val, 0, 0])
    {off : Fin 2 → ℕ} (h : ∀ (a : Fin 2), S100x128.size a = 0 ∨ off a + (![8, 1] : Fin 2 → ℕ) a * (S100x128.size a - 1) < S800x128.size a) (e : off = ![m.val, 0]) (a : Fin 100) (b : Fin 128) :
    View.readAt (Elt F) ((M.slice (Rect.unit (s := S2x800x128) off3 S1x800x128.size h3) (fun _ => rfl)).squeeze S800x128 squeezes_S1x800x128_S800x128).view
        (⟨off, S100x128.size, ![8, 1], h⟩ : LoadRect S800x128) X (ix2 a b)
      = M.view.read (Elt F) X (ix3 p ⟨8 * a.val + m.val, by omega⟩ b) := by
  subst e3 e
  have hc : (Rect.unit (s := S2x800x128) ![p.val, 0, 0] S1x800x128.size h3).shape.ShapeCasts S800x128 := (by decide : S1x800x128.ShapeCasts S800x128)
  show shapeCast S800x128 (View.readAt (Elt F) M.view (Rect.unit (s := S2x800x128) ![p.val, 0, 0] S1x800x128.size h3).toLoadRect X) hc
    ((⟨![m.val, 0], S100x128.size, ![8, 1], h⟩ : LoadRect S800x128).idx (ix2 a b)) = _
  refine (shapeCast_apply _ hc _ (ix3 (0 : Fin 1) (⟨8 * a.val + m.val, by omega⟩ : Fin 800) b) (by
    rw [Shape.rowMajor_val_three, Shape.rowMajor_val_two]
    show (0 * 800 + (8 * a.val + m.val)) * 128 + b.val = (m.val + 8 * a.val) * 128 + (0 + 1 * b.val)
    omega)).trans ?_
  refine congrArg (M.view.read (Elt F) X) (funext fun d => Fin.ext ?_)
  refine (Rect.idx_unit_val _ _ h3 _ d).trans ?_
  fin_cases d
  · rfl
  · exact Nat.zero_add _
  · exact Nat.zero_add _

/-- The twenty-four stores to the left operand, last first. -/
def lhsPieces (w : FVec F S1x128 .f32) (xr xi : Vec F S6x8x2x64x128 .bf16) (k : Fin k0_t1_loop.trips) : List (View.Piece (Elt F) S768x256 .bf16) :=
  [(⟨Rect.unit (s := S768x256) ![704, 128] S64x128.size inb_S768x256_S64x128_704_128, oddPiece w (ldSlab xi (k0_off12 k) (k0_off12_inb k)) (ldSlab xi (k0_off13 k) (k0_off13_inb k))⟩ : View.Piece (Elt F) S768x256 .bf16),
   (⟨Rect.unit (s := S768x256) ![704, 0] S64x128.size inb_S768x256_S64x128_704_0, evenPiece w (ldSlab xi (k0_off12 k) (k0_off12_inb k)) (ldSlab xi (k0_off13 k) (k0_off13_inb k))⟩ : View.Piece (Elt F) S768x256 .bf16),
   (⟨Rect.unit (s := S768x256) ![640, 128] S64x128.size inb_S768x256_S64x128_640_128, oddPiece w (ldSlab xi (k0_off10 k) (k0_off10_inb k)) (ldSlab xi (k0_off11 k) (k0_off11_inb k))⟩ : View.Piece (Elt F) S768x256 .bf16),
   (⟨Rect.unit (s := S768x256) ![640, 0] S64x128.size inb_S768x256_S64x128_640_0, evenPiece w (ldSlab xi (k0_off10 k) (k0_off10_inb k)) (ldSlab xi (k0_off11 k) (k0_off11_inb k))⟩ : View.Piece (Elt F) S768x256 .bf16),
   (⟨Rect.unit (s := S768x256) ![576, 128] S64x128.size inb_S768x256_S64x128_576_128, oddPiece w (ldSlab xi (k0_off8 k) (k0_off8_inb k)) (ldSlab xi (k0_off9 k) (k0_off9_inb k))⟩ : View.Piece (Elt F) S768x256 .bf16),
   (⟨Rect.unit (s := S768x256) ![576, 0] S64x128.size inb_S768x256_S64x128_576_0, evenPiece w (ldSlab xi (k0_off8 k) (k0_off8_inb k)) (ldSlab xi (k0_off9 k) (k0_off9_inb k))⟩ : View.Piece (Elt F) S768x256 .bf16),
   (⟨Rect.unit (s := S768x256) ![512, 128] S64x128.size inb_S768x256_S64x128_512_128, oddPiece w (ldSlab xi (k0_off6 k) (k0_off6_inb k)) (ldSlab xi (k0_off7 k) (k0_off7_inb k))⟩ : View.Piece (Elt F) S768x256 .bf16),
   (⟨Rect.unit (s := S768x256) ![512, 0] S64x128.size inb_S768x256_S64x128_512_0, evenPiece w (ldSlab xi (k0_off6 k) (k0_off6_inb k)) (ldSlab xi (k0_off7 k) (k0_off7_inb k))⟩ : View.Piece (Elt F) S768x256 .bf16),
   (⟨Rect.unit (s := S768x256) ![448, 128] S64x128.size inb_S768x256_S64x128_448_128, oddPiece w (ldSlab xi (k0_off4 k) (k0_off4_inb k)) (ldSlab xi (k0_off5 k) (k0_off5_inb k))⟩ : View.Piece (Elt F) S768x256 .bf16),
   (⟨Rect.unit (s := S768x256) ![448, 0] S64x128.size inb_S768x256_S64x128_448_0, evenPiece w (ldSlab xi (k0_off4 k) (k0_off4_inb k)) (ldSlab xi (k0_off5 k) (k0_off5_inb k))⟩ : View.Piece (Elt F) S768x256 .bf16),
   (⟨Rect.unit (s := S768x256) ![384, 128] S64x128.size inb_S768x256_S64x128_384_128, oddPiece w (ldSlab xi (k0_off2 k) (k0_off2_inb k)) (ldSlab xi (k0_off3 k) (k0_off3_inb k))⟩ : View.Piece (Elt F) S768x256 .bf16),
   (⟨Rect.unit (s := S768x256) ![384, 0] S64x128.size inb_S768x256_S64x128_384_0, evenPiece w (ldSlab xi (k0_off2 k) (k0_off2_inb k)) (ldSlab xi (k0_off3 k) (k0_off3_inb k))⟩ : View.Piece (Elt F) S768x256 .bf16),
   (⟨Rect.unit (s := S768x256) ![320, 128] S64x128.size inb_S768x256_S64x128_320_128, oddPiece w (ldSlab xr (k0_off12 k) (k0_off12_inb k)) (ldSlab xr (k0_off13 k) (k0_off13_inb k))⟩ : View.Piece (Elt F) S768x256 .bf16),
   (⟨Rect.unit (s := S768x256) ![320, 0] S64x128.size inb_S768x256_S64x128_320_0, evenPiece w (ldSlab xr (k0_off12 k) (k0_off12_inb k)) (ldSlab xr (k0_off13 k) (k0_off13_inb k))⟩ : View.Piece (Elt F) S768x256 .bf16),
   (⟨Rect.unit (s := S768x256) ![256, 128] S64x128.size inb_S768x256_S64x128_256_128, oddPiece w (ldSlab xr (k0_off10 k) (k0_off10_inb k)) (ldSlab xr (k0_off11 k) (k0_off11_inb k))⟩ : View.Piece (Elt F) S768x256 .bf16),
   (⟨Rect.unit (s := S768x256) ![256, 0] S64x128.size inb_S768x256_S64x128_256_0, evenPiece w (ldSlab xr (k0_off10 k) (k0_off10_inb k)) (ldSlab xr (k0_off11 k) (k0_off11_inb k))⟩ : View.Piece (Elt F) S768x256 .bf16),
   (⟨Rect.unit (s := S768x256) ![192, 128] S64x128.size inb_S768x256_S64x128_192_128, oddPiece w (ldSlab xr (k0_off8 k) (k0_off8_inb k)) (ldSlab xr (k0_off9 k) (k0_off9_inb k))⟩ : View.Piece (Elt F) S768x256 .bf16),
   (⟨Rect.unit (s := S768x256) ![192, 0] S64x128.size inb_S768x256_S64x128_192_0, evenPiece w (ldSlab xr (k0_off8 k) (k0_off8_inb k)) (ldSlab xr (k0_off9 k) (k0_off9_inb k))⟩ : View.Piece (Elt F) S768x256 .bf16),
   (⟨Rect.unit (s := S768x256) ![128, 128] S64x128.size inb_S768x256_S64x128_128_128, oddPiece w (ldSlab xr (k0_off6 k) (k0_off6_inb k)) (ldSlab xr (k0_off7 k) (k0_off7_inb k))⟩ : View.Piece (Elt F) S768x256 .bf16),
   (⟨Rect.unit (s := S768x256) ![128, 0] S64x128.size inb_S768x256_S64x128_128_0, evenPiece w (ldSlab xr (k0_off6 k) (k0_off6_inb k)) (ldSlab xr (k0_off7 k) (k0_off7_inb k))⟩ : View.Piece (Elt F) S768x256 .bf16),
   (⟨Rect.unit (s := S768x256) ![64, 128] S64x128.size inb_S768x256_S64x128_64_128, oddPiece w (ldSlab xr (k0_off4 k) (k0_off4_inb k)) (ldSlab xr (k0_off5 k) (k0_off5_inb k))⟩ : View.Piece (Elt F) S768x256 .bf16),
   (⟨Rect.unit (s := S768x256) ![64, 0] S64x128.size inb_S768x256_S64x128_64_0, evenPiece w (ldSlab xr (k0_off4 k) (k0_off4_inb k)) (ldSlab xr (k0_off5 k) (k0_off5_inb k))⟩ : View.Piece (Elt F) S768x256 .bf16),
   (⟨Rect.unit (s := S768x256) ![0, 128] S64x128.size inb_S768x256_S64x128_0_128, oddPiece w (ldSlab xr (k0_off2 k) (k0_off2_inb k)) (ldSlab xr (k0_off3 k) (k0_off3_inb k))⟩ : View.Piece (Elt F) S768x256 .bf16),
   (⟨Rect.unit (s := S768x256) ![0, 0] S64x128.size inb_S768x256_S64x128_0_0, evenPiece w (ldSlab xr (k0_off2 k) (k0_off2_inb k)) (ldSlab xr (k0_off3 k) (k0_off3_inb k))⟩ : View.Piece (Elt F) S768x256 .bf16)]

theorem lhsPieces_allAt (w : FVec F S1x128 .f32) (xr xi : Vec F S6x8x2x64x128 .bf16) (k : Fin k0_t1_loop.trips) (y : S768x256.Idx) :
    View.AllAt (lhsPieces w xr xi k) y (lhsOf w xr xi (ordIx k) y) := by
  unfold lhsPieces
  refine View.allAt_cons_unit _ _ _ _ _ (tile_odd w xr xi xi (ordIx k) 1 5 rfl _ _ (k0_off12_eq k) (k0_off13_eq k) rfl y) ?_
  refine View.allAt_cons_unit _ _ _ _ _ (tile_even w xr xi xi (ordIx k) 1 5 rfl _ _ (k0_off12_eq k) (k0_off13_eq k) rfl y) ?_
  refine View.allAt_cons_unit _ _ _ _ _ (tile_odd w xr xi xi (ordIx k) 1 4 rfl _ _ (k0_off10_eq k) (k0_off11_eq k) rfl y) ?_
  refine View.allAt_cons_unit _ _ _ _ _ (tile_even w xr xi xi (ordIx k) 1 4 rfl _ _ (k0_off10_eq k) (k0_off11_eq k) rfl y) ?_
  refine View.allAt_cons_unit _ _ _ _ _ (tile_odd w xr xi xi (ordIx k) 1 3 rfl _ _ (k0_off8_eq k) (k0_off9_eq k) rfl y) ?_
  refine View.allAt_cons_unit _ _ _ _ _ (tile_even w xr xi xi (ordIx k) 1 3 rfl _ _ (k0_off8_eq k) (k0_off9_eq k) rfl y) ?_
  refine View.allAt_cons_unit _ _ _ _ _ (tile_odd w xr xi xi (ordIx k) 1 2 rfl _ _ (k0_off6_eq k) (k0_off7_eq k) rfl y) ?_
  refine View.allAt_cons_unit _ _ _ _ _ (tile_even w xr xi xi (ordIx k) 1 2 rfl _ _ (k0_off6_eq k) (k0_off7_eq k) rfl y) ?_
  refine View.allAt_cons_unit _ _ _ _ _ (tile_odd w xr xi xi (ordIx k) 1 1 rfl _ _ (k0_off4_eq k) (k0_off5_eq k) rfl y) ?_
  refine View.allAt_cons_unit _ _ _ _ _ (tile_even w xr xi xi (ordIx k) 1 1 rfl _ _ (k0_off4_eq k) (k0_off5_eq k) rfl y) ?_
  refine View.allAt_cons_unit _ _ _ _ _ (tile_odd w xr xi xi (ordIx k) 1 0 rfl _ _ (k0_off2_eq k) (k0_off3_eq k) rfl y) ?_
  refine View.allAt_cons_unit _ _ _ _ _ (tile_even w xr xi xi (ordIx k) 1 0 rfl _ _ (k0_off2_eq k) (k0_off3_eq k) rfl y) ?_
  refine View.allAt_cons_unit _ _ _ _ _ (tile_odd w xr xi xr (ordIx k) 0 5 rfl _ _ (k0_off12_eq k) (k0_off13_eq k) rfl y) ?_
  refine View.allAt_cons_unit _ _ _ _ _ (tile_even w xr xi xr (ordIx k) 0 5 rfl _ _ (k0_off12_eq k) (k0_off13_eq k) rfl y) ?_
  refine View.allAt_cons_unit _ _ _ _ _ (tile_odd w xr xi xr (ordIx k) 0 4 rfl _ _ (k0_off10_eq k) (k0_off11_eq k) rfl y) ?_
  refine View.allAt_cons_unit _ _ _ _ _ (tile_even w xr xi xr (ordIx k) 0 4 rfl _ _ (k0_off10_eq k) (k0_off11_eq k) rfl y) ?_
  refine View.allAt_cons_unit _ _ _ _ _ (tile_odd w xr xi xr (ordIx k) 0 3 rfl _ _ (k0_off8_eq k) (k0_off9_eq k) rfl y) ?_
  refine View.allAt_cons_unit _ _ _ _ _ (tile_even w xr xi xr (ordIx k) 0 3 rfl _ _ (k0_off8_eq k) (k0_off9_eq k) rfl y) ?_
  refine View.allAt_cons_unit _ _ _ _ _ (tile_odd w xr xi xr (ordIx k) 0 2 rfl _ _ (k0_off6_eq k) (k0_off7_eq k) rfl y) ?_
  refine View.allAt_cons_unit _ _ _ _ _ (tile_even w xr xi xr (ordIx k) 0 2 rfl _ _ (k0_off6_eq k) (k0_off7_eq k) rfl y) ?_
  refine View.allAt_cons_unit _ _ _ _ _ (tile_odd w xr xi xr (ordIx k) 0 1 rfl _ _ (k0_off4_eq k) (k0_off5_eq k) rfl y) ?_
  refine View.allAt_cons_unit _ _ _ _ _ (tile_even w xr xi xr (ordIx k) 0 1 rfl _ _ (k0_off4_eq k) (k0_off5_eq k) rfl y) ?_
  refine View.allAt_cons_unit _ _ _ _ _ (tile_odd w xr xi xr (ordIx k) 0 0 rfl _ _ (k0_off2_eq k) (k0_off3_eq k) rfl y) ?_
  refine View.allAt_cons_unit _ _ _ _ _ (tile_even w xr xi xr (ordIx k) 0 0 rfl _ _ (k0_off2_eq k) (k0_off3_eq k) rfl y) ?_
  exact View.allAt_nil _ _

/-- The left operand read back after its stores. -/
theorem readCov_lhs (v : View sig .tc .vmem S768x256 .bf16) (w : FVec F S1x128 .f32) (xr xi : Vec F S6x8x2x64x128 .bf16) (k : Fin k0_t1_loop.trips) :
    v.readCov (lhsPieces w xr xi k) (Rect.unit (s := S768x256) ![0, 0] S768x256.size inb_S768x256_S768x256_0_0).toLoadRect = lhsOf w xr xi (ordIx k) := by
  rw [View.readCov_eq_canon']
  funext j
  have e : (Rect.unit (s := S768x256) ![0, 0] S768x256.size inb_S768x256_S768x256_0_0).toLoadRect.idx j = j := funext fun d => Fin.ext (by
    refine (Rect.idx_unit_val _ _ inb_S768x256_S768x256_0_0 j d).trans ?_
    fin_cases d
    · exact Nat.zero_add _
    · exact Nat.zero_add _)
  refine (congrArg (View.canon (lhsPieces w xr xi k)) e).trans ?_
  exact View.canon_eq_of_allAt _ _ _ (View.cover_of_tiled (s := S768x256) (lhsPieces w xr xi k) S64x128.size (by rfl) j) (lhsPieces_allAt w xr xi k j)

/-- The twelve stores of one trip to output 0, last first: parity 1 then parity 0. -/
def outPieces0 (y : FVec F S768x256 .f32) (s0 s1 : FVec F S1x100 .f32) (k : Fin k0_t1_loop.trips) : List (View.Piece (Elt F) S6x8x2x64x100 .f32) :=
  [(⟨Rect.unit (s := S6x8x2x64x100) (k0_off27 k) S1x1x1x64x100.size (k0_off27_inb k), outPiece ![320, 128] slices_S768x256_o320_128_S64x100 y s1⟩ : View.Piece (Elt F) S6x8x2x64x100 .f32),
   (⟨Rect.unit (s := S6x8x2x64x100) (k0_off26 k) S1x1x1x64x100.size (k0_off26_inb k), outPiece ![256, 128] slices_S768x256_o256_128_S64x100 y s1⟩ : View.Piece (Elt F) S6x8x2x64x100 .f32),
   (⟨Rect.unit (s := S6x8x2x64x100) (k0_off25 k) S1x1x1x64x100.size (k0_off25_inb k), outPiece ![192, 128] slices_S768x256_o192_128_S64x100 y s1⟩ : View.Piece (Elt F) S6x8x2x64x100 .f32),
   (⟨Rect.unit (s := S6x8x2x64x100) (k0_off24 k) S1x1x1x64x100.size (k0_off24_inb k), outPiece ![128, 128] slices_S768x256_o128_128_S64x100 y s1⟩ : View.Piece (Elt F) S6x8x2x64x100 .f32),
   (⟨Rect.unit (s := S6x8x2x64x100) (k0_off23 k) S1x1x1x64x100.size (k0_off23_inb k), outPiece ![64, 128] slices_S768x256_o64_128_S64x100 y s1⟩ : View.Piece (Elt F) S6x8x2x64x100 .f32),
   (⟨Rect.unit (s := S6x8x2x64x100) (k0_off22 k) S1x1x1x64x100.size (k0_off22_inb k), outPiece ![0, 128] slices_S768x256_o0_128_S64x100 y s1⟩ : View.Piece (Elt F) S6x8x2x64x100 .f32),
   (⟨Rect.unit (s := S6x8x2x64x100) (k0_off20 k) S1x1x1x64x100.size (k0_off20_inb k), outPiece ![320, 0] slices_S768x256_o320_0_S64x100 y s0⟩ : View.Piece (Elt F) S6x8x2x64x100 .f32),
   (⟨Rect.unit (s := S6x8x2x64x100) (k0_off19 k) S1x1x1x64x100.size (k0_off19_inb k), outPiece ![256, 0] slices_S768x256_o256_0_S64x100 y s0⟩ : View.Piece (Elt F) S6x8x2x64x100 .f32),
   (⟨Rect.unit (s := S6x8x2x64x100) (k0_off18 k) S1x1x1x64x100.size (k0_off18_inb k), outPiece ![192, 0] slices_S768x256_o192_0_S64x100 y s0⟩ : View.Piece (Elt F) S6x8x2x64x100 .f32),
   (⟨Rect.unit (s := S6x8x2x64x100) (k0_off17 k) S1x1x1x64x100.size (k0_off17_inb k), outPiece ![128, 0] slices_S768x256_o128_0_S64x100 y s0⟩ : View.Piece (Elt F) S6x8x2x64x100 .f32),
   (⟨Rect.unit (s := S6x8x2x64x100) (k0_off16 k) S1x1x1x64x100.size (k0_off16_inb k), outPiece ![64, 0] slices_S768x256_o64_0_S64x100 y s0⟩ : View.Piece (Elt F) S6x8x2x64x100 .f32),
   (⟨Rect.unit (s := S6x8x2x64x100) (k0_off15 k) S1x1x1x64x100.size (k0_off15_inb k), outPiece ![0, 0] slices_S768x256_o0_0_S64x100 y s0⟩ : View.Piece (Elt F) S6x8x2x64x100 .f32)]

/-- One trip takes output 0 from right below `k` to right below `k + 1`. -/
theorem upto_step0 (v : View sig .tc .vmem S6x8x2x64x100 .f32) (f : BufTy.Contents (Elt F) v.ty) (s : BitVec 32) (w : FVec F S1x128 .f32) (xs : Vec F S8x2x100 .f32)
    (xr xi : Vec F S6x8x2x64x128 .bf16) (tab : Vec F S2x800x128 .f32) (k : Fin k0_t1_loop.trips) (y : FVec F S768x256 .f32) (hy : y = prodOf w xr xi tab (ordIx k))
    (s0 s1 : FVec F S1x100 .f32) (h0 : s0 = sclOf s (Scf.iv 0#32 1#32 (ordIx k).val) (BitVec.ofNat 32 (0 : Fin 2).val) (srow xs (ordIx k) 0))
    (h1 : s1 = sclOf s (Scf.iv 0#32 1#32 (ordIx k).val) (BitVec.ofNat 32 (1 : Fin 2).val) (srow xs (ordIx k) 1))
    (hf : Upto (outOf 0 s w xs xr xi tab) (v.read (Elt F) f) k.val) :
    Upto (outOf 0 s w xs xr xi tab) (v.read (Elt F) (v.writes (Elt F) f (outPieces0 y s0 s1 k))) (k.val + 1) := by
  intro j hj
  unfold outPieces0
  refine (read_out_cons v f 0 s w xs xr xi tab (ordIx k) 5 1 (k0_off27_eq k) (k0_off27_inb k) slices_S768x256_o320_128_S64x100 rfl y hy s1 h1 _ j).trans (ite_stop rfl fun n15 => ?_)
  refine (read_out_cons v f 0 s w xs xr xi tab (ordIx k) 4 1 (k0_off26_eq k) (k0_off26_inb k) slices_S768x256_o256_128_S64x100 rfl y hy s1 h1 _ j).trans (ite_stop rfl fun n14 => ?_)
  refine (read_out_cons v f 0 s w xs xr xi tab (ordIx k) 3 1 (k0_off25_eq k) (k0_off25_inb k) slices_S768x256_o192_128_S64x100 rfl y hy s1 h1 _ j).trans (ite_stop rfl fun n13 => ?_)
  refine (read_out_cons v f 0 s w xs xr xi tab (ordIx k) 2 1 (k0_off24_eq k) (k0_off24_inb k) slices_S768x256_o128_128_S64x100 rfl y hy s1 h1 _ j).trans (ite_stop rfl fun n12 => ?_)
  refine (read_out_cons v f 0 s w xs xr xi tab (ordIx k) 1 1 (k0_off23_eq k) (k0_off23_inb k) slices_S768x256_o64_128_S64x100 rfl y hy s1 h1 _ j).trans (ite_stop rfl fun n11 => ?_)
  refine (read_out_cons v f 0 s w xs xr xi tab (ordIx k) 0 1 (k0_off22_eq k) (k0_off22_inb k) slices_S768x256_o0_128_S64x100 rfl y hy s1 h1 _ j).trans (ite_stop rfl fun n10 => ?_)
  refine (read_out_cons v f 0 s w xs xr xi tab (ordIx k) 5 0 (k0_off20_eq k) (k0_off20_inb k) slices_S768x256_o320_0_S64x100 rfl y hy s0 h0 _ j).trans (ite_stop rfl fun n05 => ?_)
  refine (read_out_cons v f 0 s w xs xr xi tab (ordIx k) 4 0 (k0_off19_eq k) (k0_off19_inb k) slices_S768x256_o256_0_S64x100 rfl y hy s0 h0 _ j).trans (ite_stop rfl fun n04 => ?_)
  refine (read_out_cons v f 0 s w xs xr xi tab (ordIx k) 3 0 (k0_off18_eq k) (k0_off18_inb k) slices_S768x256_o192_0_S64x100 rfl y hy s0 h0 _ j).trans (ite_stop rfl fun n03 => ?_)
  refine (read_out_cons v f 0 s w xs xr xi tab (ordIx k) 2 0 (k0_off17_eq k) (k0_off17_inb k) slices_S768x256_o128_0_S64x100 rfl y hy s0 h0 _ j).trans (ite_stop rfl fun n02 => ?_)
  refine (read_out_cons v f 0 s w xs xr xi tab (ordIx k) 1 0 (k0_off16_eq k) (k0_off16_inb k) slices_S768x256_o64_0_S64x100 rfl y hy s0 h0 _ j).trans (ite_stop rfl fun n01 => ?_)
  refine (read_out_cons v f 0 s w xs xr xi tab (ordIx k) 0 0 (k0_off15_eq k) (k0_off15_inb k) slices_S768x256_o0_0_S64x100 rfl y hy s0 h0 _ j).trans (ite_stop rfl fun n00 => ?_)
  have l0 : (j 0).val < 6 := (j 0).isLt
  have l2 : (j 2).val < 2 := (j 2).isLt
  by_cases e : (j 1).val = k.val
  · exfalso
    have hk : (ordIx k).val = k.val := rfl
    have v0 : (0 : Fin 6).val = 0 := rfl
    have v1 : (1 : Fin 6).val = 1 := rfl
    have v2 : (2 : Fin 6).val = 2 := rfl
    have v3 : (3 : Fin 6).val = 3 := rfl
    have v4 : (4 : Fin 6).val = 4 := rfl
    have v5 : (5 : Fin 6).val = 5 := rfl
    have u0 : (0 : Fin 2).val = 0 := rfl
    have u1 : (1 : Fin 2).val = 1 := rfl
    simp only [hk, v0, v1, v2, v3, v4, v5, u0, u1, e, true_and] at *
    omega
  · exact hf j (by omega)

/-- The twelve stores of one trip to output 1, last first: parity 1 then parity 0. -/
def outPieces1 (y : FVec F S768x256 .f32) (s0 s1 : FVec F S1x100 .f32) (k : Fin k0_t1_loop.trips) : List (View.Piece (Elt F) S6x8x2x64x100 .f32) :=
  [(⟨Rect.unit (s := S6x8x2x64x100) (k0_off27 k) S1x1x1x64x100.size (k0_off27_inb k), outPiece ![704, 128] slices_S768x256_o704_128_S64x100 y s1⟩ : View.Piece (Elt F) S6x8x2x64x100 .f32),
   (⟨Rect.unit (s := S6x8x2x64x100) (k0_off26 k) S1x1x1x64x100.size (k0_off26_inb k), outPiece ![640, 128] slices_S768x256_o640_128_S64x100 y s1⟩ : View.Piece (Elt F) S6x8x2x64x100 .f32),
   (⟨Rect.unit (s := S6x8x2x64x100) (k0_off25 k) S1x1x1x64x100.size (k0_off25_inb k), outPiece ![576, 128] slices_S768x256_o576_128_S64x100 y s1⟩ : View.Piece (Elt F) S6x8x2x64x100 .f32),
   (⟨Rect.unit (s := S6x8x2x64x100) (k0_off24 k) S1x1x1x64x100.size (k0_off24_inb k), outPiece ![512, 128] slices_S768x256_o512_128_S64x100 y s1⟩ : View.Piece (Elt F) S6x8x2x64x100 .f32),
   (⟨Rect.unit (s := S6x8x2x64x100) (k0_off23 k) S1x1x1x64x100.size (k0_off23_inb k), outPiece ![448, 128] slices_S768x256_o448_128_S64x100 y s1⟩ : View.Piece (Elt F) S6x8x2x64x100 .f32),
   (⟨Rect.unit (s := S6x8x2x64x100) (k0_off22 k) S1x1x1x64x100.size (k0_off22_inb k), outPiece ![384, 128] slices_S768x256_o384_128_S64x100 y s1⟩ : View.Piece (Elt F) S6x8x2x64x100 .f32),
   (⟨Rect.unit (s := S6x8x2x64x100) (k0_off20 k) S1x1x1x64x100.size (k0_off20_inb k), outPiece ![704, 0] slices_S768x256_o704_0_S64x100 y s0⟩ : View.Piece (Elt F) S6x8x2x64x100 .f32),
   (⟨Rect.unit (s := S6x8x2x64x100) (k0_off19 k) S1x1x1x64x100.size (k0_off19_inb k), outPiece ![640, 0] slices_S768x256_o640_0_S64x100 y s0⟩ : View.Piece (Elt F) S6x8x2x64x100 .f32),
   (⟨Rect.unit (s := S6x8x2x64x100) (k0_off18 k) S1x1x1x64x100.size (k0_off18_inb k), outPiece ![576, 0] slices_S768x256_o576_0_S64x100 y s0⟩ : View.Piece (Elt F) S6x8x2x64x100 .f32),
   (⟨Rect.unit (s := S6x8x2x64x100) (k0_off17 k) S1x1x1x64x100.size (k0_off17_inb k), outPiece ![512, 0] slices_S768x256_o512_0_S64x100 y s0⟩ : View.Piece (Elt F) S6x8x2x64x100 .f32),
   (⟨Rect.unit (s := S6x8x2x64x100) (k0_off16 k) S1x1x1x64x100.size (k0_off16_inb k), outPiece ![448, 0] slices_S768x256_o448_0_S64x100 y s0⟩ : View.Piece (Elt F) S6x8x2x64x100 .f32),
   (⟨Rect.unit (s := S6x8x2x64x100) (k0_off15 k) S1x1x1x64x100.size (k0_off15_inb k), outPiece ![384, 0] slices_S768x256_o384_0_S64x100 y s0⟩ : View.Piece (Elt F) S6x8x2x64x100 .f32)]

/-- One trip takes output 1 from right below `k` to right below `k + 1`. -/
theorem upto_step1 (v : View sig .tc .vmem S6x8x2x64x100 .f32) (f : BufTy.Contents (Elt F) v.ty) (s : BitVec 32) (w : FVec F S1x128 .f32) (xs : Vec F S8x2x100 .f32)
    (xr xi : Vec F S6x8x2x64x128 .bf16) (tab : Vec F S2x800x128 .f32) (k : Fin k0_t1_loop.trips) (y : FVec F S768x256 .f32) (hy : y = prodOf w xr xi tab (ordIx k))
    (s0 s1 : FVec F S1x100 .f32) (h0 : s0 = sclOf s (Scf.iv 0#32 1#32 (ordIx k).val) (BitVec.ofNat 32 (0 : Fin 2).val) (srow xs (ordIx k) 0))
    (h1 : s1 = sclOf s (Scf.iv 0#32 1#32 (ordIx k).val) (BitVec.ofNat 32 (1 : Fin 2).val) (srow xs (ordIx k) 1))
    (hf : Upto (outOf 1 s w xs xr xi tab) (v.read (Elt F) f) k.val) :
    Upto (outOf 1 s w xs xr xi tab) (v.read (Elt F) (v.writes (Elt F) f (outPieces1 y s0 s1 k))) (k.val + 1) := by
  intro j hj
  unfold outPieces1
  refine (read_out_cons v f 1 s w xs xr xi tab (ordIx k) 5 1 (k0_off27_eq k) (k0_off27_inb k) slices_S768x256_o704_128_S64x100 rfl y hy s1 h1 _ j).trans (ite_stop rfl fun n15 => ?_)
  refine (read_out_cons v f 1 s w xs xr xi tab (ordIx k) 4 1 (k0_off26_eq k) (k0_off26_inb k) slices_S768x256_o640_128_S64x100 rfl y hy s1 h1 _ j).trans (ite_stop rfl fun n14 => ?_)
  refine (read_out_cons v f 1 s w xs xr xi tab (ordIx k) 3 1 (k0_off25_eq k) (k0_off25_inb k) slices_S768x256_o576_128_S64x100 rfl y hy s1 h1 _ j).trans (ite_stop rfl fun n13 => ?_)
  refine (read_out_cons v f 1 s w xs xr xi tab (ordIx k) 2 1 (k0_off24_eq k) (k0_off24_inb k) slices_S768x256_o512_128_S64x100 rfl y hy s1 h1 _ j).trans (ite_stop rfl fun n12 => ?_)
  refine (read_out_cons v f 1 s w xs xr xi tab (ordIx k) 1 1 (k0_off23_eq k) (k0_off23_inb k) slices_S768x256_o448_128_S64x100 rfl y hy s1 h1 _ j).trans (ite_stop rfl fun n11 => ?_)
  refine (read_out_cons v f 1 s w xs xr xi tab (ordIx k) 0 1 (k0_off22_eq k) (k0_off22_inb k) slices_S768x256_o384_128_S64x100 rfl y hy s1 h1 _ j).trans (ite_stop rfl fun n10 => ?_)
  refine (read_out_cons v f 1 s w xs xr xi tab (ordIx k) 5 0 (k0_off20_eq k) (k0_off20_inb k) slices_S768x256_o704_0_S64x100 rfl y hy s0 h0 _ j).trans (ite_stop rfl fun n05 => ?_)
  refine (read_out_cons v f 1 s w xs xr xi tab (ordIx k) 4 0 (k0_off19_eq k) (k0_off19_inb k) slices_S768x256_o640_0_S64x100 rfl y hy s0 h0 _ j).trans (ite_stop rfl fun n04 => ?_)
  refine (read_out_cons v f 1 s w xs xr xi tab (ordIx k) 3 0 (k0_off18_eq k) (k0_off18_inb k) slices_S768x256_o576_0_S64x100 rfl y hy s0 h0 _ j).trans (ite_stop rfl fun n03 => ?_)
  refine (read_out_cons v f 1 s w xs xr xi tab (ordIx k) 2 0 (k0_off17_eq k) (k0_off17_inb k) slices_S768x256_o512_0_S64x100 rfl y hy s0 h0 _ j).trans (ite_stop rfl fun n02 => ?_)
  refine (read_out_cons v f 1 s w xs xr xi tab (ordIx k) 1 0 (k0_off16_eq k) (k0_off16_inb k) slices_S768x256_o448_0_S64x100 rfl y hy s0 h0 _ j).trans (ite_stop rfl fun n01 => ?_)
  refine (read_out_cons v f 1 s w xs xr xi tab (ordIx k) 0 0 (k0_off15_eq k) (k0_off15_inb k) slices_S768x256_o384_0_S64x100 rfl y hy s0 h0 _ j).trans (ite_stop rfl fun n00 => ?_)
  have l0 : (j 0).val < 6 := (j 0).isLt
  have l2 : (j 2).val < 2 := (j 2).isLt
  by_cases e : (j 1).val = k.val
  · exfalso
    have hk : (ordIx k).val = k.val := rfl
    have v0 : (0 : Fin 6).val = 0 := rfl
    have v1 : (1 : Fin 6).val = 1 := rfl
    have v2 : (2 : Fin 6).val = 2 := rfl
    have v3 : (3 : Fin 6).val = 3 := rfl
    have v4 : (4 : Fin 6).val = 4 := rfl
    have v5 : (5 : Fin 6).val = 5 := rfl
    have u0 : (0 : Fin 2).val = 0 := rfl
    have u1 : (1 : Fin 2).val = 1 := rfl
    simp only [hk, v0, v1, v2, v3, v4, v5, u0, u1, e, true_and] at *
    omega
  · exact hf j (by omega)

/-! ## The trip -/

set_option maxHeartbeats 4000000 in
/-- One trip: the inputs and the table unchanged, both outputs right at one more order, the right operand zero off its
    diagonal blocks again. -/
theorem trip (𝒱 : Variants) (c : Dev nD) (bd : Option 𝒱.V) (i : grid0.Coords) (arg1 : Memref sig .tc .vmem S2x100x8x128 .fp8e4m3) (harg1 : arg1.IsWhole) (arg2 : Memref sig .tc .vmem S8x2x100 .f32) (harg2 : arg2.IsWhole) (arg3 : Memref sig .tc .vmem S1x128 .f32) (harg3 : arg3.IsWhole) (arg4 : Memref sig .tc .vmem S6x8x2x64x128 .bf16) (harg4 : arg4.IsWhole) (arg5 : Memref sig .tc .vmem S6x8x2x64x128 .bf16) (harg5 : arg5.IsWhole) (arg6 : Memref sig .tc .vmem S6x8x2x64x100 .f32) (harg6 : arg6.IsWhole) (arg7 : Memref sig .tc .vmem S6x8x2x64x100 .f32) (harg7 : arg7.IsWhole) (arg8 : Memref sig .tc .vmem S2x800x128 .f32) (harg8 : arg8.IsWhole) (arg9 : Memref sig .tc .vmem S256x256 .bf16) (harg9 : arg9.IsWhole) (arg10 : Memref sig .tc .vmem S768x256 .bf16) (harg10 : arg10.IsWhole) (arg0 : BitVec 32) (v17 : Vec F S1x128 .f32) (E : Set ℕ) (k : Fin k0_t1_loop.trips) (Xarg2 : BufTy.Contents (Elt F) arg2.view.ty) (Xarg4 : BufTy.Contents (Elt F) arg4.view.ty) (Xarg5 : BufTy.Contents (Elt F) arg5.view.ty) (Xarg8 : BufTy.Contents (Elt F) arg8.view.ty) (Xarg6 : BufTy.Contents (Elt F) arg6.view.ty) (Xarg7 : BufTy.Contents (Elt F) arg7.view.ty) (Xarg9 : BufTy.Contents (Elt F) arg9.view.ty) (Xarg10 : BufTy.Contents (Elt F) arg10.view.ty)
    (h6 : Upto (outOf 0 arg0 v17 (arg2.view.read (Elt F) Xarg2) (arg4.view.read (Elt F) Xarg4) (arg5.view.read (Elt F) Xarg5) (arg8.view.read (Elt F) Xarg8)) (arg6.view.read (Elt F) Xarg6) k.val)
    (h7 : Upto (outOf 1 arg0 v17 (arg2.view.read (Elt F) Xarg2) (arg4.view.read (Elt F) Xarg4) (arg5.view.read (Elt F) Xarg5) (arg8.view.read (Elt F) Xarg8)) (arg7.view.read (Elt F) Xarg7) k.val)
    (h9 : OffDiag (arg9.view.read (Elt F) Xarg9)) :
    (iprop((arg2.view.loc (c : Thread nD τ) ↦[arg2.view.set]{fullShare} Xarg2) ∗ (arg4.view.loc (c : Thread nD τ) ↦[arg4.view.set]{fullShare} Xarg4) ∗ (arg5.view.loc (c : Thread nD τ) ↦[arg5.view.set]{fullShare} Xarg5) ∗ (arg8.view.loc (c : Thread nD τ) ↦[arg8.view.set]{fullShare} Xarg8) ∗ (arg6.view.loc (c : Thread nD τ) ↦[arg6.view.set]{fullShare} Xarg6) ∗ (arg7.view.loc (c : Thread nD τ) ↦[arg7.view.set]{fullShare} Xarg7) ∗ (arg9.view.loc (c : Thread nD τ) ↦[arg9.view.set]{fullShare} Xarg9) ∗ (arg10.view.loc (c : Thread nD τ) ↦[arg10.view.set]{fullShare} Xarg10)) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg0 v17 k PUnit.unit)
          (fun _ => iprop((arg2.view.loc (c : Thread nD τ) ↦[arg2.view.set]{fullShare} Xarg2) ∗ (arg4.view.loc (c : Thread nD τ) ↦[arg4.view.set]{fullShare} Xarg4) ∗ (arg5.view.loc (c : Thread nD τ) ↦[arg5.view.set]{fullShare} Xarg5) ∗ (arg8.view.loc (c : Thread nD τ) ↦[arg8.view.set]{fullShare} Xarg8) ∗ (∃ f, (arg6.view.loc (c : Thread nD τ) ↦[arg6.view.set]{fullShare} f) ∗ ⌜Upto (outOf 0 arg0 v17 (arg2.view.read (Elt F) Xarg2) (arg4.view.read (Elt F) Xarg4) (arg5.view.read (Elt F) Xarg5) (arg8.view.read (Elt F) Xarg8)) (arg6.view.read (Elt F) f) (k.val + 1)⌝) ∗ (∃ f, (arg7.view.loc (c : Thread nD τ) ↦[arg7.view.set]{fullShare} f) ∗ ⌜Upto (outOf 1 arg0 v17 (arg2.view.read (Elt F) Xarg2) (arg4.view.read (Elt F) Xarg4) (arg5.view.read (Elt F) Xarg5) (arg8.view.read (Elt F) Xarg8)) (arg7.view.read (Elt F) f) (k.val + 1)⌝) ∗ (∃ f, (arg9.view.loc (c : Thread nD τ) ↦[arg9.view.set]{fullShare} f) ∗ ⌜OffDiag (arg9.view.read (Elt F) f)⌝) ∗ (∃ f, (arg10.view.loc (c : Thread nD τ) ↦[arg10.view.set]{fullShare} f)))) := by
  unfold k0_t1_body
  iintro ⟨H2, H4, H5, H8, H6, H7, H9, H10⟩
  sl_exec
  sl_step
  have e9 : arg9.view.read (Elt F) (arg9.view.writes (Elt F) Xarg9 [(⟨Rect.unit ![128, 128] S100x128.size inb_S256x256_S100x128_128_128, k0_pay8 (View.readAt (Elt F) ((arg8.slice (Rect.unit (s := S2x800x128) ![1, 0, 0] S1x800x128.size inb_S2x800x128_S1x800x128_1_0_0) (fun _ => rfl)).squeeze S800x128 squeezes_S1x800x128_S800x128).view (⟨k0_off1 k, S100x128.size, ![8, 1], (k0_off1_inb k)⟩ : LoadRect S800x128) Xarg8)⟩ : View.Piece (Elt F) S256x256 .bf16), ⟨Rect.unit ![0, 0] S100x128.size inb_S256x256_S100x128_0_0, k0_pay7 (View.readAt (Elt F) ((arg8.slice (Rect.unit (s := S2x800x128) ![0, 0, 0] S1x800x128.size inb_S2x800x128_S1x800x128_0_0_0) (fun _ => rfl)).squeeze S800x128 squeezes_S1x800x128_S800x128).view (⟨k0_off1 k, S100x128.size, ![8, 1], (k0_off1_inb k)⟩ : LoadRect S800x128) Xarg8)⟩])
      = rhsOf (arg8.view.read (Elt F) Xarg8) (ordIx k) :=
    read_rhs arg9.view Xarg9 (arg8.view.read (Elt F) Xarg8) (ordIx k) _ _
      (fun a b => by
        unfold k0_pay7
        rw [shapeCast_self]
        exact congrArg (FloatOps.truncf .bf16 bitsLt_bf16_f32) (read_table arg8 Xarg8 (ordIx k) 0 _ rfl _ (k0_off1_eq k) a b))
      (fun a b => by
        unfold k0_pay8
        rw [shapeCast_self]
        exact congrArg (FloatOps.truncf .bf16 bitsLt_bf16_f32) (read_table arg8 Xarg8 (ordIx k) 1 _ rfl _ (k0_off1_eq k) a b))
      h9 _ _
  have eL : trip.sl.v300 (F := F) arg4 arg5 arg10 v17 k Xarg4 Xarg5 = lhsOf v17 (arg4.view.read (Elt F) Xarg4) (arg5.view.read (Elt F) Xarg5) (ordIx k) :=
    readCov_lhs arg10.view v17 _ _ k
  have eR : View.readAt (Elt F) arg9.view (Rect.unit (s := S256x256) ![0, 0] S256x256.size inb_S256x256_S256x256_0_0).toLoadRect
      (arg9.view.writes (Elt F) Xarg9 (trip.sl.H9_2 (F := F) arg8 k Xarg8)) = rhsOf (arg8.view.read (Elt F) Xarg8) (ordIx k) := by
    refine Eq.trans (funext fun j => ?_) e9
    refine congrArg (arg9.view.read (Elt F) _) (funext fun d => Fin.ext ?_)
    refine (Rect.idx_unit_val _ _ inb_S256x256_S256x256_0_0 j d).trans ?_
    fin_cases d
    · exact Nat.zero_add _
    · exact Nat.zero_add _
  have eY : trip.sl.r_9 (F := F) arg4 arg5 arg8 arg9 arg10 v17 k Xarg4 Xarg5 Xarg8 Xarg9 = prodOf v17 (arg4.view.read (Elt F) Xarg4) (arg5.view.read (Elt F) Xarg5) (arg8.view.read (Elt F) Xarg8) (ordIx k) :=
    congrArg₂ k0_pay62 eL eR
  have eS0 : trip.sl.r_11 (F := F) arg2 arg0 k Xarg2 = sclOf arg0 (Scf.iv 0#32 1#32 (ordIx k).val) (BitVec.ofNat 32 (0 : Fin 2).val) (srow (arg2.view.read (Elt F) Xarg2) (ordIx k) 0) :=
    congrArg (sclOf arg0 (Scf.iv 0#32 1#32 (ordIx k).val) (BitVec.ofNat 32 (0 : Fin 2).val)) (srow_eq (arg2.view.read (Elt F) Xarg2) _ (ordIx k) 0 (k0_off14_eq k))
  have eS1 : trip.sl.r_16 (F := F) arg2 arg0 k Xarg2 = sclOf arg0 (Scf.iv 0#32 1#32 (ordIx k).val) (BitVec.ofNat 32 (1 : Fin 2).val) (srow (arg2.view.read (Elt F) Xarg2) (ordIx k) 1) :=
    congrArg (sclOf arg0 (Scf.iv 0#32 1#32 (ordIx k).val) (BitVec.ofNat 32 (1 : Fin 2).val)) (srow_eq (arg2.view.read (Elt F) Xarg2) _ (ordIx k) 1 (k0_off21_eq k))
  isplitl [H2]; · iexact H2
  isplitl [H4]; · iexact H4
  isplitl [H5]; · iexact H5
  isplitl [H8]; · iexact H8
  isplitl [H6]
  · iexists _; isplitl [H6]; · iexact H6
    ipureintro
    exact upto_step0 arg6.view Xarg6 arg0 v17 _ _ _ _ k _ eY _ _ eS0 eS1 h6
  isplitl [H7]
  · iexists _; isplitl [H7]; · iexact H7
    ipureintro
    exact upto_step1 arg7.view Xarg7 arg0 v17 _ _ _ _ k _ eY _ _ eS0 eS1 h7
  isplitl [H9]
  · iexists _; isplitl [H9]; · iexact H9
    ipureintro
    have e := offDiag_rhsOf (arg8.view.read (Elt F) Xarg8) (ordIx k)
    rw [← e9] at e
    exact e
  · iexists _; iexact H10

/-- The invariant before trip `k`: the inputs and the table as they are, both outputs right at every order below `k`, the
    right operand zero off its diagonal blocks, the left operand anything. -/
abbrev loopInv (𝒱 : Variants) (c : Dev nD) (bd : Option 𝒱.V) (i : grid0.Coords) (arg1 : Memref sig .tc .vmem S2x100x8x128 .fp8e4m3) (harg1 : arg1.IsWhole) (arg2 : Memref sig .tc .vmem S8x2x100 .f32) (harg2 : arg2.IsWhole) (arg3 : Memref sig .tc .vmem S1x128 .f32) (harg3 : arg3.IsWhole) (arg4 : Memref sig .tc .vmem S6x8x2x64x128 .bf16) (harg4 : arg4.IsWhole) (arg5 : Memref sig .tc .vmem S6x8x2x64x128 .bf16) (harg5 : arg5.IsWhole) (arg6 : Memref sig .tc .vmem S6x8x2x64x100 .f32) (harg6 : arg6.IsWhole) (arg7 : Memref sig .tc .vmem S6x8x2x64x100 .f32) (harg7 : arg7.IsWhole) (arg8 : Memref sig .tc .vmem S2x800x128 .f32) (harg8 : arg8.IsWhole) (arg9 : Memref sig .tc .vmem S256x256 .bf16) (harg9 : arg9.IsWhole) (arg10 : Memref sig .tc .vmem S768x256 .bf16) (harg10 : arg10.IsWhole) (arg0 : BitVec 32) (v17 : Vec F S1x128 .f32) (Xarg2 : BufTy.Contents (Elt F) arg2.view.ty) (Xarg4 : BufTy.Contents (Elt F) arg4.view.ty) (Xarg5 : BufTy.Contents (Elt F) arg5.view.ty) (Xarg8 : BufTy.Contents (Elt F) arg8.view.ty) (k : ℕ) (acc : Unit) : sProp 𝕄 :=
  iprop((arg2.view.loc (c : Thread nD τ) ↦[arg2.view.set]{fullShare} Xarg2) ∗ (arg4.view.loc (c : Thread nD τ) ↦[arg4.view.set]{fullShare} Xarg4) ∗ (arg5.view.loc (c : Thread nD τ) ↦[arg5.view.set]{fullShare} Xarg5) ∗ (arg8.view.loc (c : Thread nD τ) ↦[arg8.view.set]{fullShare} Xarg8) ∗ (∃ f, (arg6.view.loc (c : Thread nD τ) ↦[arg6.view.set]{fullShare} f) ∗ ⌜Upto (outOf 0 arg0 v17 (arg2.view.read (Elt F) Xarg2) (arg4.view.read (Elt F) Xarg4) (arg5.view.read (Elt F) Xarg5) (arg8.view.read (Elt F) Xarg8)) (arg6.view.read (Elt F) f) k⌝) ∗ (∃ f, (arg7.view.loc (c : Thread nD τ) ↦[arg7.view.set]{fullShare} f) ∗ ⌜Upto (outOf 1 arg0 v17 (arg2.view.read (Elt F) Xarg2) (arg4.view.read (Elt F) Xarg4) (arg5.view.read (Elt F) Xarg5) (arg8.view.read (Elt F) Xarg8)) (arg7.view.read (Elt F) f) k⌝) ∗ (∃ f, (arg9.view.loc (c : Thread nD τ) ↦[arg9.view.set]{fullShare} f) ∗ ⌜OffDiag (arg9.view.read (Elt F) f)⌝) ∗ (∃ f, (arg10.view.loc (c : Thread nD τ) ↦[arg10.view.set]{fullShare} f)))

set_option warn.classDefReducibility false in
/-- The loop by that invariant. -/
@[sl_loop] def loop (𝒱 : Variants) (c : Dev nD) (bd : Option 𝒱.V) (E : Set ℕ) (i : grid0.Coords) (arg1 : Memref sig .tc .vmem S2x100x8x128 .fp8e4m3) (harg1 : arg1.IsWhole) (arg2 : Memref sig .tc .vmem S8x2x100 .f32) (harg2 : arg2.IsWhole) (arg3 : Memref sig .tc .vmem S1x128 .f32) (harg3 : arg3.IsWhole) (arg4 : Memref sig .tc .vmem S6x8x2x64x128 .bf16) (harg4 : arg4.IsWhole) (arg5 : Memref sig .tc .vmem S6x8x2x64x128 .bf16) (harg5 : arg5.IsWhole) (arg6 : Memref sig .tc .vmem S6x8x2x64x100 .f32) (harg6 : arg6.IsWhole) (arg7 : Memref sig .tc .vmem S6x8x2x64x100 .f32) (harg7 : arg7.IsWhole) (arg8 : Memref sig .tc .vmem S2x800x128 .f32) (harg8 : arg8.IsWhole) (arg9 : Memref sig .tc .vmem S256x256 .bf16) (harg9 : arg9.IsWhole) (arg10 : Memref sig .tc .vmem S768x256 .bf16) (harg10 : arg10.IsWhole) (arg0 : BitVec 32) (v17 : Vec F S1x128 .f32) (Xarg2 : BufTy.Contents (Elt F) arg2.view.ty) (Xarg4 : BufTy.Contents (Elt F) arg4.view.ty) (Xarg5 : BufTy.Contents (Elt F) arg5.view.ty) (Xarg8 : BufTy.Contents (Elt F) arg8.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg0 v17 where
  inv := loopInv (F := F) 𝒱 c bd i arg1 harg1 arg2 harg2 arg3 harg3 arg4 harg4 arg5 harg5 arg6 harg6 arg7 harg7 arg8 harg8 arg9 harg9 arg10 harg10 arg0 v17 Xarg2 Xarg4 Xarg5 Xarg8
  step k acc := by
    iintro ⟨H2, H4, H5, H8, ⟨%f6, H6, %h6⟩, ⟨%f7, H7, %h7⟩, ⟨%f9, H9, %h9⟩, ⟨%f10, H10⟩⟩
    iapply (trip (F := F) 𝒱 c bd i arg1 harg1 arg2 harg2 arg3 harg3 arg4 harg4 arg5 harg5 arg6 harg6 arg7 harg7 arg8 harg8 arg9 harg9 arg10 harg10 arg0 v17 E k Xarg2 Xarg4 Xarg5 Xarg8 f6 f7 f9 f10 h6 h7 h9)
    isplitl [H2]; · iexact H2
    isplitl [H4]; · iexact H4
    isplitl [H5]; · iexact H5
    isplitl [H8]; · iexact H8
    isplitl [H6]; · iexact H6
    isplitl [H7]; · iexact H7
    isplitl [H9]; · iexact H9
    iexact H10

end Cert.KernelIdeal.Hand

end
-- ==== Proof.KernelIdeal.Body.lean ====
/- The kernel body at one grid point: what it leaves in the two output blocks, and that it leaves the right operand zero
   off its diagonal blocks. -/
module

public import proofs.«01_k».proof.Proof.KernelIdeal.Loop
public import Idealize.ShloMosaic.Lib.Pipeline.FrameBody

@[expose] public section

set_option maxRecDepth 8192

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄" => MT nD τ sig Unit (Elt F) ℕ (UR sig nD τ) ℕ

/-- The two stores to the table, last first. -/
def tabPieces (x : Vec F S2x100x8x128 .fp8e4m3) : List (View.Piece (Elt F) S2x800x128 .f32) :=
  [(⟨Rect.unit (s := S2x800x128) ![1, 0, 0] S1x800x128.size inb_S2x800x128_S1x800x128_1_0_0,
      k0_pay3 (View.ld x (Rect.unit (s := S2x100x8x128) ![1, 0, 0, 0] S1x100x8x128.size inb_S2x100x8x128_S1x100x8x128_1_0_0_0))⟩ : View.Piece (Elt F) S2x800x128 .f32),
   (⟨Rect.unit (s := S2x800x128) ![0, 0, 0] S1x800x128.size inb_S2x800x128_S1x800x128_0_0_0,
      k0_pay2 (View.ld x (Rect.unit (s := S2x100x8x128) ![0, 0, 0, 0] S1x100x8x128.size inb_S2x100x8x128_S1x100x8x128_0_0_0_0))⟩ : View.Piece (Elt F) S2x800x128 .f32)]

/-- The table of one grid point: the codes of its eight orders, one row per degree slot and order. -/
def tabOf (x : Vec F S2x100x8x128 .fp8e4m3) : Vec F S2x800x128 .f32 := View.canon (tabPieces x)

theorem cover_tab (x : Vec F S2x100x8x128 .fp8e4m3) (y : S2x800x128.Idx) : ∃ pc ∈ tabPieces x, y ∈ pc.1.set :=
  View.cover_of_tiled (s := S2x800x128) (tabPieces x) S1x800x128.size (by rfl) y

/-- A load of a whole buffer is the buffer. -/
theorem read_whole_w (v : View sig .tc .vmem S1x128 .f32) (f : BufTy.Contents (Elt F) v.ty) :
    v.readAt (Elt F) (Rect.unit (s := S1x128) ![0, 0] S1x128.size inb_S1x128_S1x128_0_0).toLoadRect f = v.read (Elt F) f := by
  funext j
  refine congrArg (v.read (Elt F) f) (funext fun d => Fin.ext ?_)
  refine (Rect.idx_unit_val _ _ inb_S1x128_S1x128_0_0 j d).trans ?_
  fin_cases d
  · exact Nat.zero_add _
  · exact Nat.zero_add _

/-- Zeros stored over the whole right operand. -/
theorem offDiag_zero (v : View sig .tc .vmem S256x256 .bf16) (f : BufTy.Contents (Elt F) v.ty) :
    OffDiag (v.read (Elt F) (v.writes (Elt F) f [(⟨Rect.unit (s := S256x256) ![0, 0] S256x256.size inb_S256x256_S256x256_0_0, k0_pay1⟩ : View.Piece (Elt F) S256x256 .bf16)])) := by
  intro j _
  rw [View.read_writes_cons_unit_of_mem v f inb_S256x256_S256x256_0_0 _ _ j j rfl (by
    intro a
    fin_cases a
    · exact (Nat.zero_add _).symm
    · exact (Nat.zero_add _).symm)]
  unfold k0_pay1
  rw [shapeCast_self]
  rfl

theorem upto_zero (G g : Vec F S6x8x2x64x100 .f32) : Upto G g 0 := fun _ h => absurd h (Nat.not_lt_zero _)

theorem upto_all {G g : Vec F S6x8x2x64x100 .f32} (h : Upto G g 8) : g = G := funext fun j => h j (j 1).isLt

theorem first_word (n : ℕ) (hn : n < 25) :
    Scalar.cmpi .ne (Scalar.extui (Scalar.cmpi .eq (BitVec.ofNat 32 n) 0#32)) 0#32 = 1#1 ↔ n = 0 := by
  have : ∀ n : Fin 25, Scalar.cmpi .ne (Scalar.extui (Scalar.cmpi .eq (BitVec.ofNat 32 n.val) 0#32)) 0#32 = 1#1 ↔ n.val = 0 := by decide +kernel
  exact this ⟨n, hn⟩

set_option maxHeartbeats 4000000 in
/-- The body at a grid point: the inputs' blocks as they were, the outputs' blocks computed from them, the right operand
    zero off its diagonal blocks — which, after the first grid point, it must be before. -/
theorem sound_kernel (c : Dev nD) (E : Set ℕ) (i : grid0.Coords) (arg1 : Memref sig .tc .vmem S2x100x8x128 .fp8e4m3) (harg1 : arg1.IsWhole) (arg2 : Memref sig .tc .vmem S8x2x100 .f32) (harg2 : arg2.IsWhole) (arg3 : Memref sig .tc .vmem S1x128 .f32) (harg3 : arg3.IsWhole) (arg4 : Memref sig .tc .vmem S6x8x2x64x128 .bf16) (harg4 : arg4.IsWhole) (arg5 : Memref sig .tc .vmem S6x8x2x64x128 .bf16) (harg5 : arg5.IsWhole) (arg6 : Memref sig .tc .vmem S6x8x2x64x100 .f32) (harg6 : arg6.IsWhole) (arg7 : Memref sig .tc .vmem S6x8x2x64x100 .f32) (harg7 : arg7.IsWhole) (arg8 : Memref sig .tc .vmem S2x800x128 .f32) (harg8 : arg8.IsWhole) (arg9 : Memref sig .tc .vmem S256x256 .bf16) (harg9 : arg9.IsWhole) (arg10 : Memref sig .tc .vmem S768x256 .bf16) (harg10 : arg10.IsWhole)
    (x1 : Vec F S2x100x8x128 .fp8e4m3) (x2 : Vec F S8x2x100 .f32) (x3 : Vec F S1x128 .f32) (x4 x5 : Vec F S6x8x2x64x128 .bf16) (K : PUnit → sProp 𝕄) :
    (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (∃ d, owns (c : Thread nD τ) arg8 fullShare d)
        ∗ (∃ d, owns (c : Thread nD τ) arg9 fullShare d ∗ ⌜(i 0).val ≠ 0 → OffDiag d⌝)
        ∗ (∃ d, owns (c : Thread nD τ) arg10 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outOf 0 (BitVec.ofNat 32 (i 0).val) x3 x2 x4 x5 (tabOf x1))
            ∗ owns (c : Thread nD τ) arg7 fullShare (outOf 1 (BitVec.ofNat 32 (i 0).val) x3 x2 x4 x5 (tabOf x1))
            ∗ (∃ d, owns (c : Thread nD τ) arg8 fullShare d)
            ∗ (∃ d, owns (c : Thread nD τ) arg9 fullShare d ∗ ⌜OffDiag d⌝)
            ∗ (∃ d, owns (c : Thread nD τ) arg10 fullShare d)) -∗ K ⟨⟩)) : sProp 𝕄)
      ⊢ wp frame (wpE (defs₀ (F := F)) Variants.none c none) E (cc0_legendre i arg1 harg1 arg2 harg2 arg3 harg3 arg4 harg4 arg5 harg5 arg6 harg6 arg7 harg7 arg8 harg8 arg9 harg9 arg10 harg10) K := by
  simp only [cc0_legendre_eq_skeleton]; unfold cc0_legendre_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, ⟨%f9, %hf9, H9⟩, %h9⟩, ⟨%d10, %f10, -, H10⟩, Hk⟩
  subst hf1 hf2 hf3 hf4 hf5 hf9
  have hu6 : Upto (outOf 0 (BitVec.ofNat 32 (i 0).val) (arg3.view.readAt (Elt F) (Rect.unit (s := S1x128) ![0, 0] S1x128.size inb_S1x128_S1x128_0_0).toLoadRect f3)
      (arg2.view.read (Elt F) f2) (arg4.view.read (Elt F) f4) (arg5.view.read (Elt F) f5)
      (arg8.view.read (Elt F) (arg8.view.writes (Elt F) arg8.view.junk (tabPieces (arg1.view.read (Elt F) f1))))) (arg6.view.read (Elt F) f6) 0 := upto_zero _ _
  have hu7 : Upto (outOf 1 (BitVec.ofNat 32 (i 0).val) (arg3.view.readAt (Elt F) (Rect.unit (s := S1x128) ![0, 0] S1x128.size inb_S1x128_S1x128_0_0).toLoadRect f3)
      (arg2.view.read (Elt F) f2) (arg4.view.read (Elt F) f4) (arg5.view.read (Elt F) f5)
      (arg8.view.read (Elt F) (arg8.view.writes (Elt F) arg8.view.junk (tabPieces (arg1.view.read (Elt F) f1))))) (arg7.view.read (Elt F) f7) 0 := upto_zero _ _
  have fin : ∀ (q : Fin 2) (g : Vec F S6x8x2x64x100 .f32),
      Upto (outOf q (BitVec.ofNat 32 (i 0).val) (arg3.view.readAt (Elt F) (Rect.unit (s := S1x128) ![0, 0] S1x128.size inb_S1x128_S1x128_0_0).toLoadRect f3)
        (arg2.view.read (Elt F) f2) (arg4.view.read (Elt F) f4) (arg5.view.read (Elt F) f5)
        (arg8.view.read (Elt F) (arg8.view.writes (Elt F) arg8.view.junk (tabPieces (arg1.view.read (Elt F) f1))))) g 8 →
      g = outOf q (BitVec.ofNat 32 (i 0).val) (arg3.view.read (Elt F) f3) (arg2.view.read (Elt F) f2) (arg4.view.read (Elt F) f4)
        (arg5.view.read (Elt F) f5) (tabOf (arg1.view.read (Elt F) f1)) := by
    intro q g h
    rw [upto_all h, read_whole_w, View.read_writes_eq_canon _ _ _ (cover_tab _)]
    rfl
  by_cases h0 : (i 0).val = 0
  · have hc := (first_word (i 0).val (i 0).isLt).mpr h0
    have hz := offDiag_zero (F := F) arg9.view arg9.view.junk
    sl_exec (disch := sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro; exact fin 0 _ hL5
    isplitl [H7]
    · iexists _; isplitr
      swap; · iexact H7
      ipureintro; exact fin 1 _ hL7
    isplitl [H8]
    · iexists _, _; isplitr
      swap; · iexact H8
      ipureintro; rfl
    isplitl [H9]
    · iexists _; isplitl [H9]
      · iexists _; isplitr
        swap; · iexact H9
        ipureintro; rfl
      ipureintro; exact hL9
    iexists _, _; isplitr
    swap; · iexact H10
    ipureintro; rfl
  · have hc := fun h => h0 ((first_word (i 0).val (i 0).isLt).mp h)
    have hz := h9 h0
    sl_exec (disch := sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro; exact fin 0 _ hL5
    isplitl [H7]
    · iexists _; isplitr
      swap; · iexact H7
      ipureintro; exact fin 1 _ hL7
    isplitl [H8]
    · iexists _, _; isplitr
      swap; · iexact H8
      ipureintro; rfl
    isplitl [H9]
    · iexists _; isplitl [H9]
      · iexists _; isplitr
        swap; · iexact H9
        ipureintro; rfl
      ipureintro; exact hL9
    iexists _, _; isplitr
    swap; · iexact H10
    ipureintro; rfl

end Cert.KernelIdeal.Hand

end
-- ==== Proof.KernelIdeal.Run.lean ====
/- The kernel's run: what the pipeline is handed at every grid point, the right operand's zeros carried from point to
   point, the launch, and the frame. -/
module

public import proofs.«01_k».proof.Proof.KernelIdeal.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord0 (t : Fin cfg0.N) : (grid0.coords t 0).val = t.val :=
  (by decide +kernel : ∀ t : Fin 25, (grid0.coords t 0).val = t.val) t

/-- What output `q`'s block holds after the body at point `t`: computed from the inputs' blocks there. -/
def outBlk (q : Fin 2) (c : Dev nD) (t : Fin cfg0.N) : Vec F S6x8x2x64x100 .f32 :=
  outOf q (BitVec.ofNat 32 (grid0.coords t 0).val) (iblk m c 2 t) (iblk m c 1 t) (iblk m c 3 t) (iblk m c 4 t) (tabOf (iblk m c 0 t))

/-- What the body finds of its own buffers before point `n`: anything, but the right operand zero off its diagonal blocks
    after the first point. -/
def Φ (c : Dev nD) (n : ℕ) : sProp 𝕄 :=
  iprop(((∃ f, owns (c : Thread nD τ) (Memref.whole cc0_scratch0) fullShare f)
    ∗ (∃ f, owns (c : Thread nD τ) (Memref.whole cc0_scratch1) fullShare f ∗ ⌜n ≠ 0 → OffDiag f⌝)
    ∗ (∃ f, owns (c : Thread nD τ) (Memref.whole cc0_scratch2) fullShare f)) ∗ ∃ r, prngReg c r)

/-- The pipeline's proof data: the arrays as the region finds them, and after the body each input's block unchanged and each
    output's block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m 0 c t
    | ⟨6, _⟩ => outBlk m 1 c t
  Φ t := Φ c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m 0 c t := by dsimp only [dats]
theorem after0_6 (c : Dev nD) (t : Fin cfg0.N) : (dats m 0 c).after 6 t = outBlk m 1 c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the pipeline hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Φ c (t.val + 1) from rfl, show (dats m 0 c).Φ t.castSucc = Φ c t.val from rfl,
    show (dats m 0 c).owesAt () t.succ = (dats m 0 c).owesAt () t.castSucc from rfl,
    after0_0, after0_1, after0_2, after0_3, after0_4, after0_5, after0_6]
  unfold Φ outBlk
  iintro ⟨⟨⟨H8, ⟨%d9, H9, %h9⟩, H10⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H8]; · iexact H8
  isplitl [H9]
  · iexists d9; isplitl [H9]; · iexact H9
    ipureintro; exact fun h => h9 (fun e => h ((coord0 t).trans e))
  isplitl [H10]; · iexact H10
  iintro ⟨H0, H1, H2, H3, H4, H5, H6, H8, ⟨%e9, H9, %g9⟩, H10⟩
  isplitl [H8 H9 H10 Hr]
  · isplitl [H8 H9 H10]
    · isplitl [H8]; · iexact H8
      isplitl [H9]
      · iexists e9; isplitl [H9]; · iexact H9
        ipureintro; exact fun _ => g9
      iexact H10
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is known of the body's own buffers. -/
theorem Φ_in (c : Dev nD) : Pipeline.ΦA spec0 c ⊢ (dats m 0 c).Φ 0 := by
  rw [show (dats m 0 c).Φ 0 = Φ c 0 from rfl]
  unfold Pipeline.ΦA Φ
  rw [scopedRest0_eq]
  simp only [owns_whole]
  iintro ⟨⟨H8, ⟨%f9, H9⟩, H10⟩, Hr⟩
  isplitl [H8 H9 H10]
  · isplitl [H8]; · iexact H8
    isplitl [H9]
    · iexists f9; isplitl [H9]; · iexact H9
      ipureintro; exact fun h => absurd rfl h
    iexact H10
  iexact Hr

/-- After the last point what is known is dropped. -/
theorem Φ_out (c : Dev nD) : (dats m 0 c).Φ (Fin.last cfg0.N) ⊢ Pipeline.ΦA spec0 c := by
  rw [show (dats m 0 c).Φ (Fin.last cfg0.N) = Φ c cfg0.N from rfl]
  unfold Pipeline.ΦA Φ
  rw [scopedRest0_eq]
  simp only [owns_whole]
  iintro ⟨⟨H8, ⟨%f9, H9, %h9⟩, H10⟩, Hr⟩
  isplitl [H8 H9 H10]
  · isplitl [H8]; · iexact H8
    isplitl [H9]
    · iexists f9; iexact H9
    iexact H10
  iexact Hr

set_option backward.isDefEq.respectTransparency.types false in
set_option maxHeartbeats 800000 in
/-- The launch: every execution terminates with the arrays at what the proof data computes and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Φ_in m) (hout := Φ_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  frame_of m ρ (dats m) (A_eq m) (run_main m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) ∧ r.2.sem = fun _ => 0) :=
  θ_run_and (unchanged m ρ) ((θ_run defs _ _).mono (fun _ h => h.2) (run_main_quiescent m ρ))

end Cert.KernelIdeal.Hand

end
-- ==== Proof.Spec.lean ====
/- The transform as a function of its arguments over the extended reals, entry by entry. Both programs are shown to
   compute it. -/
module

public import Idealize.ShloMosaic.PureOps.Ideal.Laws
public import Idealize.ShloMosaic.Lib.ValueIdxCore

@[expose] public section

noncomputable section

namespace Cert.Spec

open Idealize.ShloMosaic Idealize.ShloMosaic.ValueIdx

/-- The symmetric (`q = 0`) or antisymmetric (`q = 1`) combination of a northern and a southern value. -/
def fold (q : Fin 2) (n s : EReal) : EReal := if q.val = 0 then n + s else n - s

/-- The fold as a sum with the southern value times the parity's sign. -/
theorem fold_eq_sign (q : Fin 2) (n s : EReal) : n + (if q.val = 0 then (1 : EReal) else -1) * s = fold q n s := by
  unfold fold
  by_cases h : q.val = 0
  · rw [if_pos h, if_pos h, one_mul]
  · rw [if_neg h, if_neg h, neg_one_mul, ← sub_eq_add_neg]

/-- One spectral coefficient: the weighted symmetric or antisymmetric half of the field, summed over latitude against
    the Legendre table, times the scale, or times zero beyond the truncation `m + 2 k + q ≤ 199`. `x h t` is the field in
    hemisphere `h` at latitude `t`. -/
def coeff (tab : Fin 128 → EReal) (scale : EReal) (w : Fin 128 → EReal) (x : Fin 2 → Fin 128 → EReal) (m k : ℕ) (q : Fin 2) : EReal :=
  (∑ t : Fin 128, fold q (x 0 t) (x 1 t) * w t * tab t) * (if m + 2 * k + q.val ≤ 199 then scale else 0)

/-- All the coefficients of one field `X`: entry `(b, m, q, k, d)`, from the table `P` at `(m, q, k, t)`, the scale `S` at
    `(m, q, k)`, the weight `W` at `t` and the field at `(b, m, h, t, d)`. -/
def result (P : (⟨4, ![200, 2, 100, 128]⟩ : Shape).Idx → EReal) (S : (⟨3, ![200, 2, 100]⟩ : Shape).Idx → EReal)
    (W : (⟨1, ![128]⟩ : Shape).Idx → EReal) (X : (⟨5, ![6, 200, 2, 128, 64]⟩ : Shape).Idx → EReal) :
    (⟨5, ![6, 200, 2, 100, 64]⟩ : Shape).Idx → EReal := fun z =>
  coeff (fun t => P (ix4 (z 1 : Fin 200) (z 2 : Fin 2) (z 3 : Fin 100) t)) (S (ix3 (z 1 : Fin 200) (z 2 : Fin 2) (z 3 : Fin 100))) (fun t => W (ix1 t))
    (fun h t => X (ix5 (z 0 : Fin 6) (z 1 : Fin 200) h t (z 4 : Fin 64))) (z 1 : Fin 200).val (z 3 : Fin 100).val (z 2)

/-- The signed comparison of the truncation, on numbers. -/
theorem word_le (n : ℕ) (hn : n < 1000) : (BitVec.ofNat 32 n).sle 199#32 = decide (n ≤ 199) := by
  rw [BitVec.sle, BitVec.toInt_eq_toNat_of_lt (by simp; omega), BitVec.toInt_eq_toNat_of_lt (by decide)]
  simp
  omega

end Cert.Spec

end
-- ==== Proof.KernelIdeal.Algebra.lean ====
/- One grid point of the kernel over the extended reals: each entry of its output blocks is one spectral coefficient. -/
module

public import proofs.«01_k».proof.Proof.KernelIdeal.Body
public import proofs.«01_k».proof.Proof.Spec
public import Idealize.ShloMosaic.Lib.ValueIdx
public import Idealize.ShloMosaic.Lib.IdealHost

@[expose] public section

set_option maxRecDepth 8192

noncomputable section

namespace Cert.KernelIdeal.Hand

open Idealize.ShloMosaic Idealize.ShloMosaic.TcCoe Idealize.ShloMosaic.ValueIdx
open Cert.KernelIdeal.Gen

/-! ## The two operands of the product -/

/-- The scaled rows of the left operand: columns 0 to 127 hold the symmetric halves. -/
theorem lhsOf_even (w : FVec Ideal S1x128 .f32) (xr xi : Vec Ideal S6x8x2x64x128 .bf16) (m : Fin 8) (i : Fin 2) (b : Fin 6) (d : Fin 64) (t : Fin 128)
    (c : Fin 256) (hc : c.val = t.val) :
    lhsOf w xr xi m (ix2 (rowIx i b d) c)
      = (((if i.val = 0 then xr else xi) (ix5 b m 0 d t) + (if i.val = 0 then xr else xi) (ix5 b m 1 d t) : EReal) * w (ix2 (0 : Fin 1) t) : EReal) := by
  unfold lhsOf
  have hr : (ix2 (rowIx i b d) c (0 : Fin 2)).val = (6 * i.val + b.val) * 64 + d.val := rfl
  have hcc : (ix2 (rowIx i b d) c (1 : Fin 2)).val = t.val := hc
  have eX : (if (ix2 (rowIx i b d) c (0 : Fin 2)).val < 384 then xr else xi) = (if i.val = 0 then xr else xi) := by
    congr 1; apply propext; omega
  have eB : (⟨(ix2 (rowIx i b d) c (0 : Fin 2)).val / 64 % 6, Nat.mod_lt _ (by decide)⟩ : Fin 6) = b := Fin.ext (by show _ / 64 % 6 = b.val; omega)
  have eD : (⟨(ix2 (rowIx i b d) c (0 : Fin 2)).val % 64, Nat.mod_lt _ (by decide)⟩ : Fin 64) = d := Fin.ext (by show _ % 64 = d.val; omega)
  have eT : (⟨(ix2 (rowIx i b d) c (1 : Fin 2)).val % 128, Nat.mod_lt _ (by decide)⟩ : Fin 128) = t := Fin.ext (by show _ % 128 = t.val; omega)
  rw [if_pos (by omega), eX, eB, eD, eT]
  exact congrArg₂ (fun u v : EReal => u * v) rfl (congrArg w (funext fun a => Fin.ext (by fin_cases a <;> rfl)))

/-- Columns 128 to 255 hold the antisymmetric halves. -/
theorem lhsOf_odd (w : FVec Ideal S1x128 .f32) (xr xi : Vec Ideal S6x8x2x64x128 .bf16) (m : Fin 8) (i : Fin 2) (b : Fin 6) (d : Fin 64) (t : Fin 128)
    (c : Fin 256) (hc : c.val = 128 + t.val) :
    lhsOf w xr xi m (ix2 (rowIx i b d) c)
      = (((if i.val = 0 then xr else xi) (ix5 b m 0 d t) - (if i.val = 0 then xr else xi) (ix5 b m 1 d t) : EReal) * w (ix2 (0 : Fin 1) t) : EReal) := by
  unfold lhsOf
  have hr : (ix2 (rowIx i b d) c (0 : Fin 2)).val = (6 * i.val + b.val) * 64 + d.val := rfl
  have hcc : (ix2 (rowIx i b d) c (1 : Fin 2)).val = 128 + t.val := hc
  have eX : (if (ix2 (rowIx i b d) c (0 : Fin 2)).val < 384 then xr else xi) = (if i.val = 0 then xr else xi) := by
    congr 1; apply propext; omega
  have eB : (⟨(ix2 (rowIx i b d) c (0 : Fin 2)).val / 64 % 6, Nat.mod_lt _ (by decide)⟩ : Fin 6) = b := Fin.ext (by show _ / 64 % 6 = b.val; omega)
  have eD : (⟨(ix2 (rowIx i b d) c (0 : Fin 2)).val % 64, Nat.mod_lt _ (by decide)⟩ : Fin 64) = d := Fin.ext (by show _ % 64 = d.val; omega)
  have eT : (⟨(ix2 (rowIx i b d) c (1 : Fin 2)).val % 128, Nat.mod_lt _ (by decide)⟩ : Fin 128) = t := Fin.ext (by show _ % 128 = t.val; omega)
  rw [if_neg (by omega), eX, eB, eD, eT]
  exact congrArg₂ (fun u v : EReal => u * v) rfl (congrArg w (funext fun a => Fin.ext (by fin_cases a <;> rfl)))

/-- A row of the right operand that belongs to parity `q` reads the table on that parity's columns. -/
theorem rhsOf_diag (tab : Vec Ideal S2x800x128 .f32) (m : Fin 8) (q : Fin 2) (k : Fin 100) (t : Fin 128) (c : Fin 256) (hc : c.val = q.val * 128 + t.val) :
    rhsOf tab m (ix2 (colIx q k) c) = tab (ix3 q ⟨8 * k.val + m.val, by omega⟩ t) := by
  unfold rhsOf
  have hr : (ix2 (colIx q k) c (0 : Fin 2)).val = q.val * 128 + k.val := rfl
  have hcc : (ix2 (colIx q k) c (1 : Fin 2)).val = q.val * 128 + t.val := hc
  have hq : q.val = 0 ∨ q.val = 1 := by omega
  rcases hq with hq | hq
  · rw [dif_pos (by omega)]
    have e : q = 0 := Fin.ext hq
    subst e
    refine congrArg tab (funext fun a => Fin.ext ?_)
    fin_cases a
    · rfl
    · show 8 * (ix2 (colIx 0 k) c (0 : Fin 2)).val + m.val = 8 * k.val + m.val; omega
    · show (ix2 (colIx 0 k) c (1 : Fin 2)).val = t.val; omega
  · rw [dif_neg (by omega), dif_pos (by omega)]
    have e : q = 1 := Fin.ext hq
    subst e
    refine congrArg tab (funext fun a => Fin.ext ?_)
    fin_cases a
    · rfl
    · show 8 * ((ix2 (colIx 1 k) c (0 : Fin 2)).val - 128) + m.val = 8 * k.val + m.val; omega
    · show (ix2 (colIx 1 k) c (1 : Fin 2)).val - 128 = t.val; omega

/-- On the other parity's columns it is zero. -/
theorem rhsOf_off (tab : Vec Ideal S2x800x128 .f32) (m : Fin 8) (q : Fin 2) (k : Fin 100) (t : Fin 128) (c : Fin 256) (hc : c.val = (1 - q.val) * 128 + t.val) :
    rhsOf tab m (ix2 (colIx q k) c) = (0 : EReal) := by
  refine (offDiag_rhsOf tab m _ ?_).trans Ideal.ofBits_zero_bf16
  unfold inDiag
  have hr : (ix2 (colIx q k) c (0 : Fin 2)).val = q.val * 128 + k.val := rfl
  have hcc : (ix2 (colIx q k) c (1 : Fin 2)).val = (1 - q.val) * 128 + t.val := hc
  omega

/-! ## The product -/

theorem lhs_at_0 (j : S768x256.Idx) (r : dot_S768x256_S256x256_S768x256_1_1_0_0_n_n.contr.Idx) :
    (dot_S768x256_S256x256_S768x256_1_1_0_0_n_n.lhsIdx j r 0).val = (j 0).val := by
  simp [DotDims.lhsIdx, dot_S768x256_S256x256_S768x256_1_1_0_0_n_n]; rfl

theorem rhs_at_0 (j : S768x256.Idx) (r : dot_S768x256_S256x256_S768x256_1_1_0_0_n_n.contr.Idx) :
    (dot_S768x256_S256x256_S768x256_1_1_0_0_n_n.rhsIdx j r 0).val = (j 1).val := by
  simp [DotDims.rhsIdx, dot_S768x256_S256x256_S768x256_1_1_0_0_n_n]; rfl

/-- The product as a sum over the 256 columns of both operands. -/
theorem pay62_apply (l : Vec Ideal S768x256 .bf16) (r : Vec Ideal S256x256 .bf16) (a : Fin 768) (e : Fin 256) :
    k0_pay62 l r (ix2 a e) = ∑ c : Fin 256, (l (ix2 a c) : EReal) * r (ix2 e c) := by
  refine (Ideal.matmul_apply dot_S768x256_S256x256_S768x256_1_1_0_0_n_n none l r (constant S768x256 .f32 0x00000000#32) (ix2 a e)).trans ?_
  refine (congrArg₂ (fun u v : EReal => u + v) Ideal.ofBits_zero_f32 rfl).trans ?_
  refine (zero_add _).trans ?_
  rw [← Equiv.sum_comp (ValueIdx.contrEquiv1 dot_S768x256_S256x256_S768x256_1_1_0_0_n_n 256 rfl rfl).symm]
  refine Finset.sum_congr rfl fun c _ => ?_
  have hk := ValueIdx.contrEquiv1_symm_val dot_S768x256_S256x256_S768x256_1_1_0_0_n_n 256 rfl rfl c
  refine congrArg₂ (fun u v : EReal => u * v) (congrArg l (funext fun x => Fin.ext ?_)) (congrArg r (funext fun x => Fin.ext ?_))
  · match x with
    | ⟨0, _⟩ => exact lhs_at_0 _ _
    | ⟨1, _⟩ => exact (dot_S768x256_S256x256_S768x256_1_1_0_0_n_n.lhsIdx_val_of_single rfl _ _).trans hk
  · match x with
    | ⟨0, _⟩ => exact rhs_at_0 _ _
    | ⟨1, _⟩ => exact (dot_S768x256_S256x256_S768x256_1_1_0_0_n_n.rhsIdx_val_of_single rfl _ _).trans hk

/-- The product at order `m`: only the columns of the row's own parity contribute. -/
theorem prodOf_apply (w : FVec Ideal S1x128 .f32) (xr xi : Vec Ideal S6x8x2x64x128 .bf16) (tab : Vec Ideal S2x800x128 .f32) (m : Fin 8)
    (i : Fin 2) (b : Fin 6) (d : Fin 64) (q : Fin 2) (k : Fin 100) :
    prodOf w xr xi tab m (ix2 (rowIx i b d) (colIx q k))
      = ∑ t : Fin 128, Spec.fold q ((if i.val = 0 then xr else xi) (ix5 b m 0 d t)) ((if i.val = 0 then xr else xi) (ix5 b m 1 d t))
          * w (ix2 (0 : Fin 1) t) * tab (ix3 q ⟨8 * k.val + m.val, by omega⟩ t) := by
  unfold prodOf
  rw [pay62_apply]
  refine (Fin.sum_univ_add (a := 128) (b := 128) (fun c : Fin (128 + 128) =>
    ((lhsOf w xr xi m (ix2 (rowIx i b d) (c : Fin 256)) : EReal) * rhsOf tab m (ix2 (colIx q k) (c : Fin 256)) : EReal))).trans ?_
  have hq : q.val = 0 ∨ q.val = 1 := by omega
  rcases hq with hq | hq
  · refine (congrArg₂ (fun u v : EReal => u + v) (Finset.sum_congr rfl fun t _ => ?_) (Finset.sum_eq_zero fun t _ => ?_)).trans (add_zero _)
    · unfold Spec.fold
      rw [if_pos hq]
      exact congrArg₂ (fun u v : EReal => u * v) (lhsOf_even w xr xi m i b d t (Fin.castAdd 128 t) rfl) (rhsOf_diag tab m q k t (Fin.castAdd 128 t) (by rw [hq]; exact (Nat.zero_add _).symm))
    · exact (congrArg (fun v : EReal => (lhsOf w xr xi m (ix2 (rowIx i b d) (Fin.natAdd 128 t : Fin 256)) : EReal) * v) (rhsOf_off tab m q k t (Fin.natAdd 128 t) (by rw [hq]; rfl))).trans (mul_zero _)
  · refine (congrArg₂ (fun u v : EReal => u + v) (Finset.sum_eq_zero fun t _ => ?_) (Finset.sum_congr rfl fun t _ => ?_)).trans (zero_add _)
    · exact (congrArg (fun v : EReal => (lhsOf w xr xi m (ix2 (rowIx i b d) (Fin.castAdd 128 t : Fin 256)) : EReal) * v) (rhsOf_off tab m q k t (Fin.castAdd 128 t) (by rw [hq]; exact (Nat.zero_add _).symm))).trans (mul_zero _)
    · unfold Spec.fold
      rw [if_neg (by omega)]
      exact congrArg₂ (fun u v : EReal => u * v) (lhsOf_odd w xr xi m i b d t (Fin.natAdd 128 t) rfl) (rhsOf_diag tab m q k t (Fin.natAdd 128 t) (by rw [hq]; rfl))

/-! ## The table -/

/-- One parity's table as stored: row `8 k + m` holds degree slot `k` at order `m`. -/
theorem pay2_apply (v : Vec Ideal S1x100x8x128 .fp8e4m3) (z : S1x800x128.Idx) (k : Fin 100) (m : Fin 8) (t : Fin 128)
    (hk : (z 1).val = 8 * k.val + m.val) (ht : (z 2).val = t.val) :
    k0_pay2 v z = v (ix4 (0 : Fin 1) k m t) := by
  have h0 : (z 0).val < 1 := (z 0).isLt
  have hr : 8 * k.val + m.val < 800 := by omega
  unfold k0_pay2
  refine (shapeCast_apply _ _ z (ix2 (⟨8 * k.val + m.val, hr⟩ : Fin 800) t) (by
    rw [Shape.rowMajor_val_two, Shape.rowMajor_val_three]
    show (8 * k.val + m.val) * 128 + t.val = ((z 0).val * 800 + (z 1).val) * 128 + (z 2).val
    omega)).trans ?_
  refine (shapeCast_apply _ _ _ (ix3 k m t) (by
    rw [Shape.rowMajor_val_two, Shape.rowMajor_val_three]
    show (k.val * 8 + m.val) * 128 + t.val = (8 * k.val + m.val) * 128 + t.val
    omega)).trans ?_
  exact shapeCast_apply _ _ _ (ix4 (0 : Fin 1) k m t) (by rw [Shape.rowMajor_val_three, Shape.rowMajor_val_four]; simp)

/-- The whole table: row `8 k + m` of parity `q` is the block at `(q, k, m)`. -/
theorem tabOf_apply (x : Vec Ideal S2x100x8x128 .fp8e4m3) (q : Fin 2) (k : Fin 100) (m : Fin 8) (t : Fin 128) (h : 8 * k.val + m.val < 800) :
    tabOf x (ix3 q ⟨8 * k.val + m.val, h⟩ t) = x (ix4 q k m t) := by
  unfold tabOf
  refine View.canon_eq_of_allAt _ _ _ (cover_tab x _) ?_
  unfold tabPieces
  refine View.allAt_cons_unit _ _ _ _ _ ?_ (View.allAt_cons_unit _ _ _ _ _ ?_ (View.allAt_nil _ _))
  · intro z hz
    have h0 : q.val = 1 + (z 0).val := hz 0
    have h1 : 8 * k.val + m.val = 0 + (z 1).val := hz 1
    have h2 : t.val = 0 + (z 2).val := hz 2
    refine (pay2_apply _ z k m t (by omega) (by omega)).trans ?_
    refine congrArg x (funext fun a => Fin.ext ?_)
    refine (Rect.idx_unit_val _ _ inb_S2x100x8x128_S1x100x8x128_1_0_0_0 _ a).trans ?_
    have h00 : (z 0).val < 1 := (z 0).isLt
    fin_cases a
    · show 1 + 0 = q.val; omega
    · show 0 + k.val = k.val; omega
    · show 0 + m.val = m.val; omega
    · show 0 + t.val = t.val; omega
  · intro z hz
    have h0 : q.val = 0 + (z 0).val := hz 0
    have h1 : 8 * k.val + m.val = 0 + (z 1).val := hz 1
    have h2 : t.val = 0 + (z 2).val := hz 2
    refine (pay2_apply _ z k m t (by omega) (by omega)).trans ?_
    refine congrArg x (funext fun a => Fin.ext ?_)
    refine (Rect.idx_unit_val _ _ inb_S2x100x8x128_S1x100x8x128_0_0_0_0 _ a).trans ?_
    have h00 : (z 0).val < 1 := (z 0).isLt
    fin_cases a
    · show 0 + 0 = q.val; omega
    · show 0 + k.val = k.val; omega
    · show 0 + m.val = m.val; omega
    · show 0 + t.val = t.val; omega

/-! ## The scale -/

/-- The words added up are the number `8 s + m + 2 k + q`. -/
theorem word_sum (s m q k : ℕ) (hm : m < 8) :
    ((BitVec.ofNat 32 s * 8#32 + Scf.iv 0#32 1#32 m) + 2#32 * BitVec.ofNat 32 k) + BitVec.ofNat 32 q = BitVec.ofNat 32 (8 * s + m + 2 * k + q) := by
  have e : Scf.iv 0#32 1#32 m = BitVec.ofNat 32 m := by
    interval_cases m <;> rfl
  rw [e]
  apply BitVec.eq_of_toNat_eq
  simp [BitVec.toNat_add, BitVec.toNat_mul]
  congr 1
  ring

/-- The scale row of order `8 s + m`, parity `q`: zero beyond the truncation. -/
theorem sclOf_apply (s : ℕ) (hs : s < 25) (m : Fin 8) (q : Fin 2) (row : FVec Ideal S1x100 .f32) (k : Fin 100) :
    sclOf (BitVec.ofNat 32 s) (Scf.iv 0#32 1#32 m.val) (BitVec.ofNat 32 q.val) row (ix2 (0 : Fin 1) k)
      = if (8 * s + m.val) + 2 * k.val + q.val ≤ 199 then row (ix2 (0 : Fin 1) k) else (0 : EReal) := by
  have hw : cmpi .sle (addi (addi (broadcast S1x100 (Scalar.addi (Scalar.muli (BitVec.ofNat 32 s) 8#32) (Scf.iv 0#32 1#32 m.val)))
      (muli (broadcast S1x100 2#32) (iota .tc S1x100 32 [1] iota_S1x100_d1_w32))) (broadcast S1x100 (BitVec.ofNat 32 q.val))) (broadcast S1x100 199#32) (ix2 (0 : Fin 1) k)
      = BitVec.ofBool (decide ((8 * s + m.val) + 2 * k.val + q.val ≤ 199)) := by
    refine Eq.trans ?_ (congrArg BitVec.ofBool (Spec.word_le (8 * s + m.val + 2 * k.val + q.val) (by omega)))
    rw [← word_sum s m.val q.val k.val m.isLt]
    have hi : iota .tc S1x100 32 [1] iota_S1x100_d1_w32 (ix2 (0 : Fin 1) k) = BitVec.ofNat 32 k.val :=
      congrArg (BitVec.ofNat 32) ((congrArg (· + k.val) (Nat.zero_mul 100)).trans (Nat.zero_add _))
    rw [← hi]
    rfl
  unfold sclOf
  refine (congrArg (fun c : BitVec 1 => if c = 1#1 then row (ix2 (0 : Fin 1) k) else Scalar.ofBits .f32 0x00000000#32) hw).trans ?_
  by_cases h : (8 * s + m.val) + 2 * k.val + q.val ≤ 199
  · simp [h]
  · simp [h]

/-! ## The output block -/

/-- Each entry of an output block is one spectral coefficient. -/
theorem outOf_apply (i : Fin 2) (s : ℕ) (hs : s < 25) (w : FVec Ideal S1x128 .f32) (xs : Vec Ideal S8x2x100 .f32) (xr xi : Vec Ideal S6x8x2x64x128 .bf16)
    (x : Vec Ideal S2x100x8x128 .fp8e4m3) (b : Fin 6) (m : Fin 8) (q : Fin 2) (d : Fin 64) (k : Fin 100) :
    outOf i (BitVec.ofNat 32 s) w xs xr xi (tabOf x) (ix5 b m q d k)
      = Spec.coeff (fun t => x (ix4 q k m t)) (xs (ix3 m q k)) (fun t => w (ix2 (0 : Fin 1) t))
          (fun h t => (if i.val = 0 then xr else xi) (ix5 b m h d t)) (8 * s + m.val) k.val q := by
  have e : outOf i (BitVec.ofNat 32 s) w xs xr xi (tabOf x) (ix5 b m q d k)
      = ((prodOf w xr xi (tabOf x) m (ix2 (rowIx i b d) (colIx q k)) : EReal)
          * sclOf (BitVec.ofNat 32 s) (Scf.iv 0#32 1#32 m.val) (BitVec.ofNat 32 q.val) (srow xs m q) (ix2 (0 : Fin 1) k) : EReal) := rfl
  rw [e, prodOf_apply, sclOf_apply s hs]
  unfold Spec.coeff
  refine congrArg₂ (fun u v : EReal => u * v) (Finset.sum_congr rfl fun t _ => ?_) rfl
  rw [tabOf_apply]

end Cert.KernelIdeal.Hand
-- ==== Proof.KernelIdeal.Value.lean ====
/- The kernel's two results over the extended reals: each entry is one spectral coefficient of the arguments. -/
module

public import proofs.«01_k».proof.Proof.KernelIdeal.Run
public import proofs.«01_k».proof.Proof.KernelIdeal.Algebra
public import Idealize.ShloMosaic.Lib.Pipeline.ValueKit

@[expose] public section

set_option maxRecDepth 8192

noncomputable section

namespace Cert.KernelIdeal.Hand

open Idealize.ShloMosaic.TcCoe Idealize.ShloMosaic.ValueIdx
open Idealize.ShloMosaic hiding ix1 ix2 ix3 ix4 ix5
open Idealize.ShloMosaic.StableHlo
open Cert.KernelIdeal.Gen

variable (m : ((l : Loc nD τ sig) → Buf (Elt Ideal) l))

/-! ## The arrays the region reads -/

theorem V_main_v0 (c : Dev nD) : V m c main_v0 = transpose S2x100x200x128 [1, 2, 0, 3] (m ((c.tc : Thread nD τ).loc main_arg0)) transposes_S200x2x100x128_S2x100x200x128_1_2_0_3 := by
  show V0 m c (Proc.devRef .tc main_v0) = _
  simp only [V0, hostOps0, TRef.unary, TRef.toBuf, TRef.ofBuf, cast_eq, List.flatten_cons, List.flatten_nil, List.append_nil, List.cons_append, List.nil_append]
  after_results_simp <;> rfl

theorem V_main_v1 (c : Dev nD) : V m c main_v1 = transpose S6x200x2x64x128 [0, 1, 2, 4, 3] (m ((c.tc : Thread nD τ).loc main_arg3)) transposes_S6x200x2x128x64_S6x200x2x64x128_0_1_2_4_3 := by
  show V0 m c (Proc.devRef .tc main_v1) = _
  simp only [V0, hostOps0, TRef.unary, TRef.toBuf, TRef.ofBuf, cast_eq, List.flatten_cons, List.flatten_nil, List.append_nil, List.cons_append, List.nil_append]
  after_results_simp <;> rfl

theorem V_main_v2 (c : Dev nD) : V m c main_v2 = transpose S6x200x2x64x128 [0, 1, 2, 4, 3] (m ((c.tc : Thread nD τ).loc main_arg4)) transposes_S6x200x2x128x64_S6x200x2x64x128_0_1_2_4_3 := by
  show V0 m c (Proc.devRef .tc main_v2) = _
  simp only [V0, hostOps0, TRef.unary, TRef.toBuf, TRef.ofBuf, cast_eq, List.flatten_cons, List.flatten_nil, List.append_nil, List.cons_append, List.nil_append]
  after_results_simp <;> rfl

theorem V_main_v3 (c : Dev nD) : V m c main_v3 = shapeCast S1x128 (m ((c.tc : Thread nD τ).loc main_arg2)) shapeCasts_S128_S1x128 := by
  show V0 m c (Proc.devRef .tc main_v3) = _
  simp only [V0, hostOps0, TRef.unary, TRef.toBuf, TRef.ofBuf, cast_eq, List.flatten_cons, List.flatten_nil, List.append_nil, List.cons_append, List.nil_append]
  after_results_simp <;> rfl

/-! ## The blocks -/

theorem idx0 : ∀ t : Fin cfg0.N, win0_0.index t = ![0, 0, t.val, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val, 0, 0, 0] := (by decide +kernel : ∀ t : Fin grid0.N, _)
theorem idx4 : ∀ t : Fin cfg0.N, win0_4.index t = ![0, t.val, 0, 0, 0] := (by decide +kernel : ∀ t : Fin grid0.N, _)
theorem idx5 : ∀ t : Fin cfg0.N, win0_5.index t = ![0, t.val, 0, 0, 0] := (by decide +kernel : ∀ t : Fin grid0.N, _)
theorem idx6 : ∀ t : Fin cfg0.N, win0_6.index t = ![0, t.val, 0, 0, 0] := (by decide +kernel : ∀ t : Fin grid0.N, _)

theorem order_lt (t : Fin cfg0.N) (r : Fin 8) : 8 * t.val + r.val < 200 := by
  have ht : t.val < 25 := lt_of_lt_of_eq t.isLt N_0
  omega

/-- The order that point `t` holds at slot `r`. -/
def ord (t : Fin cfg0.N) (r : Fin 8) : Fin 200 := ⟨8 * t.val + r.val, order_lt t r⟩

/-- The table's block. -/
theorem iblk0_apply (c : Dev nD) (t : Fin cfg0.N) (q : Fin 2) (k : Fin 100) (r : Fin 8) (l : Fin 128) :
    (iblk m c 0 t : Vec Ideal S2x100x8x128 .fp8e4m3) (ix4 q k r l) = m ((c.tc : Thread nD τ).loc main_arg0) (ix4 (ord t r) q k l) := by
  have e : (iblk m c 0 t : Vec Ideal S2x100x8x128 .fp8e4m3) (ix4 q k r l) = V m c main_v0 (ix4 q k (ord t r) l) := by
    unfold ord
    blk_ext [iblk, idx0 t]
    show t.val * 8 + r.val = 8 * t.val + r.val
    omega
  rw [e, V_main_v0]
  exact congrArg (m ((c.tc : Thread nD τ).loc main_arg0)) (funext fun a => Fin.ext (by fin_cases a <;> rfl))

/-- The scale's block. -/
theorem iblk1_apply (c : Dev nD) (t : Fin cfg0.N) (r : Fin 8) (q : Fin 2) (k : Fin 100) :
    (iblk m c 1 t : Vec Ideal S8x2x100 .f32) (ix3 r q k) = m ((c.tc : Thread nD τ).loc main_arg1) (ix3 (ord t r) q k) := by
  have e : (iblk m c 1 t : Vec Ideal S8x2x100 .f32) (ix3 r q k) = V m c main_arg1 (ix3 (ord t r) q k) := by
    unfold ord
    blk_ext [iblk, idx1 t]
    show t.val * 8 + r.val = 8 * t.val + r.val
    omega
  rw [e, V_main_arg1]

/-- The weights' block. -/
theorem iblk2_apply (c : Dev nD) (t : Fin cfg0.N) (l : Fin 128) :
    (iblk m c 2 t : Vec Ideal S1x128 .f32) (ix2 (0 : Fin 1) l) = m ((c.tc : Thread nD τ).loc main_arg2) (ix1 l) := by
  have e : (iblk m c 2 t : Vec Ideal S1x128 .f32) (ix2 (0 : Fin 1) l) = V m c main_v3 (ix2 (0 : Fin 1) l) := by
    blk_ext [iblk, idx2 t]
  rw [e, V_main_v3]
  exact shapeCast_apply _ _ _ (ix1 l) (by rw [Shape.rowMajor_val_two, Shape.rowMajor_val_one]; simp)

/-- The real field's block. -/
theorem iblk3_apply (c : Dev nD) (t : Fin cfg0.N) (b : Fin 6) (r : Fin 8) (h : Fin 2) (d : Fin 64) (l : Fin 128) :
    (iblk m c 3 t : Vec Ideal S6x8x2x64x128 .bf16) (ix5 b r h d l) = m ((c.tc : Thread nD τ).loc main_arg3) (ix5 b (ord t r) h l d) := by
  have e : (iblk m c 3 t : Vec Ideal S6x8x2x64x128 .bf16) (ix5 b r h d l) = V m c main_v1 (ix5 b (ord t r) h d l) := by
    unfold ord
    blk_ext [iblk, idx3 t]
    show t.val * 8 + r.val = 8 * t.val + r.val
    omega
  rw [e, V_main_v1]
  exact congrArg (m ((c.tc : Thread nD τ).loc main_arg3)) (funext fun a => Fin.ext (by fin_cases a <;> rfl))

/-- The imaginary field's block. -/
theorem iblk4_apply (c : Dev nD) (t : Fin cfg0.N) (b : Fin 6) (r : Fin 8) (h : Fin 2) (d : Fin 64) (l : Fin 128) :
    (iblk m c 4 t : Vec Ideal S6x8x2x64x128 .bf16) (ix5 b r h d l) = m ((c.tc : Thread nD τ).loc main_arg4) (ix5 b (ord t r) h l d) := by
  have e : (iblk m c 4 t : Vec Ideal S6x8x2x64x128 .bf16) (ix5 b r h d l) = V m c main_v2 (ix5 b (ord t r) h d l) := by
    unfold ord
    blk_ext [iblk, idx4 t]
    show t.val * 8 + r.val = 8 * t.val + r.val
    omega
  rw [e, V_main_v2]
  exact congrArg (m ((c.tc : Thread nD τ).loc main_arg4)) (funext fun a => Fin.ext (by fin_cases a <;> rfl))

/-! ## The output arrays -/

/-- The field of part `i`: real at 0, imaginary at 1. -/
def part (i : Fin 2) (c : Dev nD) : S6x200x2x128x64.Idx → EReal :=
  if i.val = 0 then m ((c.tc : Thread nD τ).loc main_arg3) else m ((c.tc : Thread nD τ).loc main_arg4)

/-- The coefficient of part `i` at batch entry `b`, order `M`, parity `q`, degree slot `k`, channel `d`. -/
def val (i : Fin 2) (c : Dev nD) (b : Fin 6) (M : Fin 200) (q : Fin 2) (k : Fin 100) (d : Fin 64) : EReal :=
  Spec.coeff (fun l => m ((c.tc : Thread nD τ).loc main_arg0) (ix4 M q k l)) (m ((c.tc : Thread nD τ).loc main_arg1) (ix3 M q k))
    (fun l => m ((c.tc : Thread nD τ).loc main_arg2) (ix1 l)) (fun h l => part m i c (ix5 b M h l d)) M.val k.val q

/-- What point `t` leaves in its output block. -/
theorem outBlk_apply (i : Fin 2) (c : Dev nD) (t : Fin cfg0.N) (b : Fin 6) (r : Fin 8) (q : Fin 2) (d : Fin 64) (k : Fin 100) :
    outBlk m i c t (ix5 b r q d k) = val m i c b (ord t r) q k d := by
  have ht : t.val < 25 := lt_of_lt_of_eq t.isLt N_0
  unfold outBlk
  rw [coord0 t]
  refine (outOf_apply i t.val ht (iblk m c 2 t) (iblk m c 1 t) (iblk m c 3 t) (iblk m c 4 t) (iblk m c 0 t) b r q d k).trans ?_
  unfold val
  have e0 : (fun l => (iblk m c 0 t : Vec Ideal S2x100x8x128 .fp8e4m3) (ix4 q k r l)) = fun l => m ((c.tc : Thread nD τ).loc main_arg0) (ix4 (ord t r) q k l) :=
    funext fun l => iblk0_apply m c t q k r l
  have e2 : (fun l => (iblk m c 2 t : Vec Ideal S1x128 .f32) (ix2 (0 : Fin 1) l)) = fun l => m ((c.tc : Thread nD τ).loc main_arg2) (ix1 l) :=
    funext fun l => iblk2_apply m c t l
  have e3 : (fun h l => (if i.val = 0 then (iblk m c 3 t : Vec Ideal S6x8x2x64x128 .bf16) else iblk m c 4 t) (ix5 b r h d l))
      = fun h l => part m i c (ix5 b (ord t r) h l d) := by
    funext h l
    unfold part
    by_cases hi : i.val = 0
    · rw [if_pos hi, if_pos hi]; exact iblk3_apply m c t b r h d l
    · rw [if_neg hi, if_neg hi]; exact iblk4_apply m c t b r h d l
  exact congr (congr (congr (congr (congrArg Spec.coeff e0) (iblk1_apply m c t r q k)) e2) e3 ▸ rfl) rfl

/-- The first output array after the run. -/
theorem arr5 (c : Dev nD) : (dats m 0 c).arrAt 5 cfg0.N = fun z : S6x200x2x64x100.Idx => val m 0 c (z 0) (z 1) (z 2) (z 4) (z 3) := by
  refine (dats m 0 c).arrAt_eq_of_covers 5 _ (by decide +kernel) fun t hf y => ?_
  blk_simp
  rw [after0_5]
  refine (congrArg (outBlk m 0 c t) (ValueIdx.eq_ix5 (n0 := 6) (n1 := 8) (n2 := 2) (n3 := 64) (n4 := 100) y)).trans ?_
  refine (outBlk_apply m 0 c t (y 0) (y 1) (y 2) (y 3) (y 4)).trans ?_
  have h0 : ((win0_5.blk t).view.emb y 0 : Fin 6) = y 0 := Fin.ext (by blk_simp [idx5 t])
  have h1 : ((win0_5.blk t).view.emb y 1 : Fin 200) = ord t (y 1) := Fin.ext (by blk_simp [idx5 t]; show t.val * 8 + (y 1).val = 8 * t.val + (y 1).val; omega)
  have h2 : ((win0_5.blk t).view.emb y 2 : Fin 2) = y 2 := Fin.ext (by blk_simp [idx5 t])
  have h3 : ((win0_5.blk t).view.emb y 3 : Fin 64) = y 3 := Fin.ext (by blk_simp [idx5 t])
  have h4 : ((win0_5.blk t).view.emb y 4 : Fin 100) = y 4 := Fin.ext (by blk_simp [idx5 t])
  show val m 0 c (y 0) (ord t (y 1)) (y 2) (y 4) (y 3) = val m 0 c _ _ _ _ _
  rw [h0, h1, h2, h3, h4]

/-- The second output array after the run. -/
theorem arr6 (c : Dev nD) : (dats m 0 c).arrAt 6 cfg0.N = fun z : S6x200x2x64x100.Idx => val m 1 c (z 0) (z 1) (z 2) (z 4) (z 3) := by
  refine (dats m 0 c).arrAt_eq_of_covers 6 _ (by decide +kernel) fun t hf y => ?_
  blk_simp
  rw [after0_6]
  refine (congrArg (outBlk m 1 c t) (ValueIdx.eq_ix5 (n0 := 6) (n1 := 8) (n2 := 2) (n3 := 64) (n4 := 100) y)).trans ?_
  refine (outBlk_apply m 1 c t (y 0) (y 1) (y 2) (y 3) (y 4)).trans ?_
  have h0 : ((win0_6.blk t).view.emb y 0 : Fin 6) = y 0 := Fin.ext (by blk_simp [idx6 t])
  have h1 : ((win0_6.blk t).view.emb y 1 : Fin 200) = ord t (y 1) := Fin.ext (by blk_simp [idx6 t]; show t.val * 8 + (y 1).val = 8 * t.val + (y 1).val; omega)
  have h2 : ((win0_6.blk t).view.emb y 2 : Fin 2) = y 2 := Fin.ext (by blk_simp [idx6 t])
  have h3 : ((win0_6.blk t).view.emb y 3 : Fin 64) = y 3 := Fin.ext (by blk_simp [idx6 t])
  have h4 : ((win0_6.blk t).view.emb y 4 : Fin 100) = y 4 := Fin.ext (by blk_simp [idx6 t])
  show val m 1 c (y 0) (ord t (y 1)) (y 2) (y 4) (y 3) = val m 1 c _ _ _ _ _
  rw [h0, h1, h2, h3, h4]

/-! ## The results -/

/-- The contents after the region: what it found, with the window arrays as it left them. -/
def exitV (c : Dev nD) : Valuation τ sig (Elt Ideal) := Pipeline.withArrays spec0 c (V0 m c) fun w => (dats m 0 c).arrAt w cfg0.N

/-- The coefficients of part `i`. -/
def res (i : Fin 2) (c : Dev nD) : S6x200x2x100x64.Idx → EReal :=
  Spec.result (m ((c.tc : Thread nD τ).loc main_arg0)) (m ((c.tc : Thread nD τ).loc main_arg1)) (m ((c.tc : Thread nD τ).loc main_arg2)) (part m i c)

theorem fin_main_v5 (c : Dev nD) : Pipeline.afterTail₀ cfgs (dats m) 0 (V0 m) [hostOps1] c main_v5 = res m 0 c := by
  show after (List.flatten [hostOps1]) (exitV m c) (Proc.devRef .tc main_v5) = _
  have e : exitV m c (Proc.devRef .tc main_v4_0) = fun z : S6x200x2x64x100.Idx => val m 0 c (z 0) (z 1) (z 2) (z 4) (z 3) :=
    (Pipeline.withArrays_arr spec0 launch0.win.arr_inj c (V0 m c) _ 5).trans (arr5 m c)
  have e2 : after (List.flatten [hostOps1]) (exitV m c) (Proc.devRef .tc main_v5) = transpose S6x200x2x100x64 [0, 1, 2, 4, 3] (exitV m c (Proc.devRef .tc main_v4_0)) transposes_S6x200x2x64x100_S6x200x2x100x64_0_1_2_4_3 := by
    simp only [hostOps1, TRef.unary, TRef.toBuf, TRef.ofBuf, cast_eq, List.flatten_cons, List.flatten_nil, List.append_nil, List.cons_append, List.nil_append]
    after_results_simp <;> rfl
  rw [e2, e]
  rfl

theorem fin_main_v6 (c : Dev nD) : Pipeline.afterTail₀ cfgs (dats m) 0 (V0 m) [hostOps1] c main_v6 = res m 1 c := by
  show after (List.flatten [hostOps1]) (exitV m c) (Proc.devRef .tc main_v6) = _
  have e : exitV m c (Proc.devRef .tc main_v4_1) = fun z : S6x200x2x64x100.Idx => val m 1 c (z 0) (z 1) (z 2) (z 4) (z 3) :=
    (Pipeline.withArrays_arr spec0 launch0.win.arr_inj c (V0 m c) _ 6).trans (arr6 m c)
  have e2 : after (List.flatten [hostOps1]) (exitV m c) (Proc.devRef .tc main_v6) = transpose S6x200x2x100x64 [0, 1, 2, 4, 3] (exitV m c (Proc.devRef .tc main_v4_1)) transposes_S6x200x2x64x100_S6x200x2x100x64_0_1_2_4_3 := by
    simp only [hostOps1, TRef.unary, TRef.toBuf, TRef.ofBuf, cast_eq, List.flatten_cons, List.flatten_nil, List.append_nil, List.cons_append, List.nil_append]
    after_results_simp <;> rfl
  rw [e2, e]
  rfl

/-- Every execution ends with both results at the coefficients and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v5) = res m 0 c ∧
      r.2.mem ((c.tc : Thread nD τ).loc main_v6) = res m 1 c ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  (θ_run defs _ _).mono (fun _ h c =>
    ⟨((h.1 c).2 main_v5 (Pipeline.mem_restRefs_of main_v5 (by decide) (by decide))).trans (fin_main_v5 m c),
     ((h.1 c).2 main_v6 (Pipeline.mem_restRefs_of main_v6 (by decide) (by decide))).trans (fin_main_v6 m c), h.2 c⟩)
    (θ_run_and (run_main m ρ) (unchanged m ρ))

end Cert.KernelIdeal.Hand

end
-- ==== Proof.ReferenceIdeal.Value.lean ====
/- The reference's two results over the extended reals: each entry is one spectral coefficient of the arguments. -/
module

public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Spec
public import Idealize.ShloMosaic.Lib.ValueIdx
public import Idealize.ShloMosaic.Lib.ValueIdxCore
public import Idealize.ShloMosaic.Lib.IdealHost
public import Idealize.ShloMosaic.Lib.Pipeline.ValueKit

@[expose] public section

set_option maxRecDepth 8192

noncomputable section

namespace Cert.ReferenceIdeal.Hand

open Idealize.ShloMosaic.TcCoe Idealize.ShloMosaic.ValueIdx
open Idealize.ShloMosaic hiding ix1 ix2 ix3 ix4 ix5
open Idealize.ShloMosaic.StableHlo
open Cert.ReferenceIdeal Cert.ReferenceIdeal.Gen Cert.ReferenceIdeal.Read Cert.ReferenceIdeal.Value

/-! ## The operations after the region -/

/-- The result computed from argument 3, entry by entry, from the arrays its operations read. -/
theorem v42_at (x : (⟨S6x200x2x128x64, .bf16⟩ : BufTy).Contents (Elt Ideal)) (r0 : (⟨S200x2x100x128, .bf16⟩ : BufTy).Contents (Elt Ideal))
    (e0 : (⟨S2x1x1, .f32⟩ : BufTy).Contents (Elt Ideal)) (e1 : (⟨S128x1, .f32⟩ : BufTy).Contents (Elt Ideal)) (e2 : (⟨S200x2x100x1, .f32⟩ : BufTy).Contents (Elt Ideal))
    (b : Fin 6) (M : Fin 200) (q : Fin 2) (k : Fin 100) (d : Fin 64) :
    val_main_v42 (F := Ideal) x r0 e0 e1 e2 (ix5 b M q k d)
      = ((∑ t : Fin 128, ((x (ix5 b M (0 : Fin 2) t d) : EReal) + e0 (ix3 q (0 : Fin 1) (0 : Fin 1)) * x (ix5 b M (1 : Fin 2) t d)) * e1 (ix2 t (0 : Fin 1)) * r0 (ix4 M q k t))
          * e2 (ix4 M q k (0 : Fin 1)) : EReal) := by
  have e : ∀ t : Fin 128, val_main_v37 (F := Ideal) x e0 e1 (lidx_main_v38 (idx_main_v39 (ix5 b M q k d)) t)
      = ((x (ix5 b M (0 : Fin 2) t d) : EReal) + e0 (ix3 q (0 : Fin 1) (0 : Fin 1)) * x (ix5 b M (1 : Fin 2) t d)) * e1 (ix2 t (0 : Fin 1)) := by
    intro t
    rw [val_main_v37_apply, val_main_v36_apply, val_main_v33_apply, val_main_v32_apply, val_main_v26_apply, val_main_v31_apply, val_main_v29_apply, val_main_v28_apply, val_main_v30_apply, val_main_v27_apply, val_main_v35_apply, val_main_v34_apply]
    refine congrArg₂ (fun u v : EReal => u * v) (congrArg₂ (fun u v : EReal => u + v) (congrArg x ?_) (congrArg₂ (fun u v : EReal => u * v) (congrArg e0 ?_) (congrArg x ?_))) (congrArg e1 ?_)
    all_goals exact funext fun a => Fin.ext (by fin_cases a <;> rfl)
  rw [val_main_v42_apply, val_main_v39_apply, val_main_v38_apply, val_main_v41_apply, val_main_v40_apply]
  refine congrArg₂ (fun u v : EReal => u * v) (Finset.sum_congr rfl fun t _ => congrArg₂ (fun u v : EReal => u * v) (e t) (congrArg r0 ?_)) (congrArg e2 ?_)
  all_goals exact funext fun a => Fin.ext (by fin_cases a <;> rfl)

/-- The result computed from argument 4, entry by entry, from the arrays its operations read. -/
theorem v60_at (x : (⟨S6x200x2x128x64, .bf16⟩ : BufTy).Contents (Elt Ideal)) (r0 : (⟨S200x2x100x128, .bf16⟩ : BufTy).Contents (Elt Ideal))
    (e0 : (⟨S2x1x1, .f32⟩ : BufTy).Contents (Elt Ideal)) (e1 : (⟨S128x1, .f32⟩ : BufTy).Contents (Elt Ideal)) (e2 : (⟨S200x2x100x1, .f32⟩ : BufTy).Contents (Elt Ideal))
    (b : Fin 6) (M : Fin 200) (q : Fin 2) (k : Fin 100) (d : Fin 64) :
    val_main_v60 (F := Ideal) x r0 e0 e1 e2 (ix5 b M q k d)
      = ((∑ t : Fin 128, ((x (ix5 b M (0 : Fin 2) t d) : EReal) + e0 (ix3 q (0 : Fin 1) (0 : Fin 1)) * x (ix5 b M (1 : Fin 2) t d)) * e1 (ix2 t (0 : Fin 1)) * r0 (ix4 M q k t))
          * e2 (ix4 M q k (0 : Fin 1)) : EReal) := by
  have e : ∀ t : Fin 128, val_main_v55 (F := Ideal) x e0 e1 (lidx_main_v56 (idx_main_v57 (ix5 b M q k d)) t)
      = ((x (ix5 b M (0 : Fin 2) t d) : EReal) + e0 (ix3 q (0 : Fin 1) (0 : Fin 1)) * x (ix5 b M (1 : Fin 2) t d)) * e1 (ix2 t (0 : Fin 1)) := by
    intro t
    rw [val_main_v55_apply, val_main_v54_apply, val_main_v51_apply, val_main_v50_apply, val_main_v44_apply, val_main_v49_apply, val_main_v47_apply, val_main_v46_apply, val_main_v48_apply, val_main_v45_apply, val_main_v53_apply, val_main_v52_apply]
    refine congrArg₂ (fun u v : EReal => u * v) (congrArg₂ (fun u v : EReal => u + v) (congrArg x ?_) (congrArg₂ (fun u v : EReal => u * v) (congrArg e0 ?_) (congrArg x ?_))) (congrArg e1 ?_)
    all_goals exact funext fun a => Fin.ext (by fin_cases a <;> rfl)
  rw [val_main_v60_apply, val_main_v57_apply, val_main_v56_apply, val_main_v59_apply, val_main_v58_apply]
  refine congrArg₂ (fun u v : EReal => u * v) (Finset.sum_congr rfl fun t _ => congrArg₂ (fun u v : EReal => u * v) (e t) (congrArg r0 ?_)) (congrArg e2 ?_)
  all_goals exact funext fun a => Fin.ext (by fin_cases a <;> rfl)

variable (m : (ℓ : Loc nD τ sig) → Buf (Elt Ideal) ℓ)

/-! ## The arrays those operations read -/

/-- The parity's sign. -/
theorem sign_at (c : Dev nD) (q : Fin 2) : exitV m c (Proc.devRef .tc main_v22) (ix3 q (0 : Fin 1) (0 : Fin 1)) = if q.val = 0 then (1 : EReal) else -1 := by
  rw [exit_main_v22]
  fin_cases q
  · exact Ideal.ofBits_one_f32
  · exact IdealRules.sign_bit.ideal_negOnePat .f32

/-- The weights. -/
theorem weight_at (c : Dev nD) (t : Fin 128) : exitV m c (Proc.devRef .tc main_v23) (ix2 t (0 : Fin 1)) = m ((c.tc : Thread nD τ).loc main_arg2) (ix1 t) := by
  rw [exit_main_v23]
  exact congrArg (m ((c.tc : Thread nD τ).loc main_arg2)) (funext fun a => Fin.ext (by fin_cases a; rfl))

/-- The words added up are the number `M + 2 k + q`. -/
theorem word_sum (M k q : ℕ) : (BitVec.ofNat 32 M + 2#32 * BitVec.ofNat 32 k) + BitVec.ofNat 32 q = BitVec.ofNat 32 (M + 2 * k + q) := by
  apply BitVec.eq_of_toNat_eq
  simp [BitVec.toNat_add, BitVec.toNat_mul]

/-- The scale, zero beyond the truncation. -/
theorem scale_at (c : Dev nD) (M : Fin 200) (q : Fin 2) (k : Fin 100) :
    exitV m c (Proc.devRef .tc main_v17) (ix4 M q k (0 : Fin 1)) = if M.val + 2 * k.val + q.val ≤ 199 then m ((c.tc : Thread nD τ).loc main_arg1) (ix3 M q k) else (0 : EReal) := by
  rw [exit_main_v17]
  have hw : BitVec.ofBool (((BitVec.ofNat 32 M.val + 2#32 * BitVec.ofNat 32 k.val) + BitVec.ofNat 32 q.val).sle 199#32)
      = BitVec.ofBool (decide (M.val + 2 * k.val + q.val ≤ 199)) := by
    rw [word_sum, Spec.word_le _ (by omega)]
  refine Eq.trans (b := if (BitVec.ofBool (((BitVec.ofNat 32 M.val + 2#32 * BitVec.ofNat 32 k.val) + BitVec.ofNat 32 q.val).sle 199#32)) = 1#1
      then m ((c.tc : Thread nD τ).loc main_arg1) (ix3 M q k) else Ideal.ofBits .f32 0x00000000#32) ?_ ?_
  · refine (broadcastInDim_apply _ bcast_S200x2x100_S200x2x100x1_0_1_2 _ (ix4 M q k (0 : Fin 1)) (ix3 M q k) (fun a => by fin_cases a <;> rfl)).trans ?_
    rfl
  · rw [hw]
    by_cases h : M.val + 2 * k.val + q.val ≤ 199
    · simp [h]
    · simp [h]

/-- The table: the region's output is the table argument. -/
theorem table_at (c : Dev nD) : exitV m c (Proc.devRef .tc main_v24) = m ((c.tc : Thread nD τ).loc main_arg0) := by
  rw [exit_main_v24]
  unfold reg_main_v24
  refine (dats m 0 c).arrAt_eq_of_covers 1 _ (by decide +kernel) fun t hf y => ?_
  blk_simp
  rw [after0_1]
  frame_out
  show iblk m c 0 t y = _
  rw [← V_main_arg0 m c]
  have i0 : win0_0.index t = ![0, 0, 0, 0] := (by decide +kernel : ∀ t : Fin grid0.N, win0_0.index t = ![0, 0, 0, 0]) t
  have i1 : win0_1.index t = ![0, 0, 0, 0] := (by decide +kernel : ∀ t : Fin grid0.N, win0_1.index t = ![0, 0, 0, 0]) t
  blk_ext [iblk, i0, i1]

/-! ## The results -/

theorem v42_eq (c : Dev nD) (b : Fin 6) (M : Fin 200) (q : Fin 2) (k : Fin 100) (d : Fin 64) :
    val_main_v42 (F := Ideal) (exitV m c (Proc.devRef .tc main_arg3)) (exitV m c (Proc.devRef .tc main_v24)) (exitV m c (Proc.devRef .tc main_v22))
        (exitV m c (Proc.devRef .tc main_v23)) (exitV m c (Proc.devRef .tc main_v17)) (ix5 b M q k d)
      = Spec.coeff (fun t => m ((c.tc : Thread nD τ).loc main_arg0) (ix4 M q k t)) (m ((c.tc : Thread nD τ).loc main_arg1) (ix3 M q k))
          (fun t => m ((c.tc : Thread nD τ).loc main_arg2) (ix1 t)) (fun h t => m ((c.tc : Thread nD τ).loc main_arg3) (ix5 b M h t d)) M.val k.val q := by
  refine (v42_at _ _ _ _ _ b M q k d).trans ?_
  refine congrArg₂ (fun u v : EReal => u * v) (Finset.sum_congr rfl fun t _ => ?_) (scale_at m c M q k)
  rw [sign_at, weight_at, table_at, exit_main_arg3, Spec.fold_eq_sign]

theorem fin_v42 (c : Dev nD) : Pipeline.afterTail₀ cfgs (dats m) 0 (V0 m) [hostOps1] c main_v42
    = Spec.result (m ((c.tc : Thread nD τ).loc main_arg0)) (m ((c.tc : Thread nD τ).loc main_arg1)) (m ((c.tc : Thread nD τ).loc main_arg2)) (m ((c.tc : Thread nD τ).loc main_arg3)) := by
  refine ((tail_main_v42 (exitV m c)).trans (val_main_v42_eq (exitV m c))).trans ?_
  funext z
  refine (congrArg (val_main_v42 (exitV m c (Proc.devRef .tc main_arg3)) (exitV m c (Proc.devRef .tc main_v24)) (exitV m c (Proc.devRef .tc main_v22))
    (exitV m c (Proc.devRef .tc main_v23)) (exitV m c (Proc.devRef .tc main_v17))) (ValueIdx.eq_ix5 (n0 := 6) (n1 := 200) (n2 := 2) (n3 := 100) (n4 := 64) z)).trans ?_
  exact v42_eq m c (z 0) (z 1) (z 2) (z 3) (z 4)

theorem v60_eq (c : Dev nD) (b : Fin 6) (M : Fin 200) (q : Fin 2) (k : Fin 100) (d : Fin 64) :
    val_main_v60 (F := Ideal) (exitV m c (Proc.devRef .tc main_arg4)) (exitV m c (Proc.devRef .tc main_v24)) (exitV m c (Proc.devRef .tc main_v22))
        (exitV m c (Proc.devRef .tc main_v23)) (exitV m c (Proc.devRef .tc main_v17)) (ix5 b M q k d)
      = Spec.coeff (fun t => m ((c.tc : Thread nD τ).loc main_arg0) (ix4 M q k t)) (m ((c.tc : Thread nD τ).loc main_arg1) (ix3 M q k))
          (fun t => m ((c.tc : Thread nD τ).loc main_arg2) (ix1 t)) (fun h t => m ((c.tc : Thread nD τ).loc main_arg4) (ix5 b M h t d)) M.val k.val q := by
  refine (v60_at _ _ _ _ _ b M q k d).trans ?_
  refine congrArg₂ (fun u v : EReal => u * v) (Finset.sum_congr rfl fun t _ => ?_) (scale_at m c M q k)
  rw [sign_at, weight_at, table_at, exit_main_arg4, Spec.fold_eq_sign]

theorem fin_v60 (c : Dev nD) : Pipeline.afterTail₀ cfgs (dats m) 0 (V0 m) [hostOps1] c main_v60
    = Spec.result (m ((c.tc : Thread nD τ).loc main_arg0)) (m ((c.tc : Thread nD τ).loc main_arg1)) (m ((c.tc : Thread nD τ).loc main_arg2)) (m ((c.tc : Thread nD τ).loc main_arg4)) := by
  refine ((tail_main_v60 (exitV m c)).trans (val_main_v60_eq (exitV m c))).trans ?_
  funext z
  refine (congrArg (val_main_v60 (exitV m c (Proc.devRef .tc main_arg4)) (exitV m c (Proc.devRef .tc main_v24)) (exitV m c (Proc.devRef .tc main_v22))
    (exitV m c (Proc.devRef .tc main_v23)) (exitV m c (Proc.devRef .tc main_v17))) (ValueIdx.eq_ix5 (n0 := 6) (n1 := 200) (n2 := 2) (n3 := 100) (n4 := 64) z)).trans ?_
  exact v60_eq m c (z 0) (z 1) (z 2) (z 3) (z 4)

/-- Every execution ends with both results at the coefficients and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v42) = Spec.result (m ((c.tc : Thread nD τ).loc main_arg0)) (m ((c.tc : Thread nD τ).loc main_arg1)) (m ((c.tc : Thread nD τ).loc main_arg2)) (m ((c.tc : Thread nD τ).loc main_arg3)) ∧
      r.2.mem ((c.tc : Thread nD τ).loc main_v60) = Spec.result (m ((c.tc : Thread nD τ).loc main_arg0)) (m ((c.tc : Thread nD τ).loc main_arg1)) (m ((c.tc : Thread nD τ).loc main_arg2)) (m ((c.tc : Thread nD τ).loc main_arg4)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  (θ_run defs _ _).mono (fun _ h c =>
    ⟨(h c).1.trans ((fin_main_v42 m c).symm.trans (fin_v42 m c)), (h c).2.1.trans ((fin_main_v60 m c).symm.trans (fin_v60 m c)), (h c).2.2⟩)
    (Value.run m ρ)

end Cert.ReferenceIdeal.Hand

end
-- ==== Proof.lean ====
/- The proof of the certificate's claims: the frames of the kernel, of its idealization and of the reference, the
   idealization, and the equality of both results with the reference's. -/
module

public import proofs.«01_k».proof.Defs
public import proofs.«01_k».proof.Proof.Gen.Kernel
public import proofs.«01_k».proof.Proof.Kernel.Run
public import proofs.«01_k».proof.Proof.Gen.KernelIdeal
public import proofs.«01_k».proof.Proof.KernelIdeal.Run
public import proofs.«01_k».proof.Proof.KernelIdeal.Value
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.ReferenceIdeal.Value
public import Idealize.ShloMosaic.Adequacy
public import Idealize.ShloMosaic.Init

@[expose] public section

noncomputable section

namespace Cert.Proof

open Idealize.ShloMosaic Idealize.SL.Sem

/-- Both programs compute the spectral coefficients of the real and of the imaginary field. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Hand.res m 0 c, fun c => Cert.KernelIdeal.Hand.res m 1 c, Cert.KernelIdeal.Hand.run m g, ?_⟩
  refine (θ_run _ _ _).mono (fun r h c => ?_) (Cert.ReferenceIdeal.Hand.run m' g')
  obtain ⟨h0, h1, hr⟩ := h c
  obtain ⟨a0, a1, a2, a3, a4⟩ := hagree c
  refine ⟨h0.trans ?_, h1.trans ?_, hr⟩
  · rw [a0, a1, a2, a3]
    rfl
  · rw [a0, a1, a2, a4]
    rfl

theorem claim : Cert.Claim :=
  ⟨Cert.Kernel.Gen.facts, Cert.KernelIdeal.Gen.facts, Cert.ReferenceIdeal.Gen.facts,
    fun m ρ _ => Cert.Kernel.Hand.frame m ρ,
    fun m ρ _ => Cert.KernelIdeal.Hand.frame m ρ,
    fun m ρ _ => Cert.ReferenceIdeal.Gen.frame m ρ,
    trivial,
    algebraic⟩

end Cert.Proof

end
